-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x11008x2048 : Shape := ⟨3, ![8, 11008, 2048]⟩
abbrev S8x2048 : Shape := ⟨2, ![8, 2048]⟩
abbrev S11008x11008 : Shape := ⟨2, ![11008, 11008]⟩
abbrev S_ : Shape := ⟨0, ![]⟩
abbrev S66 : Shape := ⟨1, ![66]⟩
abbrev S1 : Shape := ⟨1, ![1]⟩
abbrev S2 : Shape := ⟨1, ![2]⟩
abbrev S8x1x2048 : Shape := ⟨3, ![8, 1, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S1024x768 : Shape := ⟨2, ![1024, 768]⟩
abbrev S768x1024 : Shape := ⟨2, ![768, 1024]⟩
abbrev S768x768 : Shape := ⟨2, ![768, 768]⟩

abbrev nBuf : Space → Nat
  | .hbm => 17
  | .vmem => 11
  | .smem => 3
  | _ => 0

abbrev bufTy : (tb : Table) → Fin (tcTables nBuf tb) → BufTy
  | .hbm, ⟨0, _⟩ => ⟨S8x11008x2048, .fp8e4m3⟩
  | .hbm, ⟨1, _⟩ => ⟨S8x2048, .f32⟩
  | .hbm, ⟨2, _⟩ => ⟨S11008x11008, .f32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S2, .f32⟩
  | .hbm, ⟨13, _⟩ => ⟨S8x1x2048, .f32⟩
  | .hbm, ⟨14, _⟩ => ⟨S11008x11008, .f32⟩
  | .hbm, ⟨15, _⟩ => ⟨S_, .i32⟩
  | .hbm, ⟨16, _⟩ => ⟨S_, .i32⟩
  | .local _ .vmem, ⟨0, _⟩ => ⟨S1x1024x1024, .fp8e4m3⟩
  | .local _ .vmem, ⟨1, _⟩ => ⟨S1x1024x1024, .fp8e4m3⟩
  | .local _ .vmem, ⟨2, _⟩ => ⟨S1x1024x1024, .fp8e4m3⟩
  | .local _ .vmem, ⟨3, _⟩ => ⟨S1x1024x1024, .fp8e4m3⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S66, .i32⟩
  | .local _ .smem, ⟨1, _⟩ => ⟨S66, .i32⟩
  | .local _ .smem, ⟨2, _⟩ => ⟨S2, .f32⟩
  | _, _ => ⟨S8x11008x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![66, 16], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_11 : BitVec 32 := 0#32
  let v26 : BitVec 1 := Scalar.cmpi .ne v25 c0_i32_11
  v26

def k0_cond4 (i : grid0.Coords) : BitVec 1 :=
  let arg0 : BitVec 32 := BitVec.ofNat 32 (i 0).val
  let c0_i32_12 : BitVec 32 := 0#32
  let v27 : BitVec 1 := Scalar.cmpi .sgt arg0 c0_i32_12
  let v28 : BitVec 32 := Scalar.extui v27
  let c0_i32_13 : BitVec 32 := 0#32
  let v29 : BitVec 1 := Scalar.cmpi .ne v28 c0_i32_13
  v29

def k0_off2 (i : grid0.Coords) : Fin 1 → Nat :=
  let arg0 : BitVec 32 := BitVec.ofNat 32 (i 0).val
  let c1_i32 : BitVec 32 := 1#32
  let v63 : BitVec 32 := Scalar.subi arg0 c1_i32
  let v64 : Index := Scalar.indexCast v63
  ![v64.toNat]
def k0_mult1 (v65 : BitVec 32) : BitVec 32 :=
  let c1024_i32 : BitVec 32 := 1024#32
  let v79 : BitVec 32 := Scalar.muli v65 c1024_i32
  v79
def k0_cond5 (v67 : BitVec 32) : BitVec 1 :=
  let c10_i32_28 : BitVec 32 := 10#32
  let v68 : BitVec 1 := Scalar.cmpi .slt v67 c10_i32_28
  let v69 : BitVec 32 := Scalar.extui v68
  let c0_i32_29 : BitVec 32 := 0#32
  let v70 : BitVec 1 := Scalar.cmpi .ne v69 c0_i32_29
  v70

def k0_mult2 (v67 : BitVec 32) : BitVec 32 :=
  let c1024_i32_35 : BitVec 32 := 1024#32
  let v81 : BitVec 32 := Scalar.muli v67 c1024_i32_35
  v81
def k0_off3 (v65 : BitVec 32) (v67 : BitVec 32) : Fin 2 → Nat :=
  let c1024_i32 : BitVec 32 := 1024#32
  let v79 : BitVec 32 := Scalar.muli v65 c1024_i32
  let v80 : BitVec 32 := v79
  let c1024_i32_35 : BitVec 32 := 1024#32
  let v81 : BitVec 32 := Scalar.muli v67 c1024_i32_35
  let v82 : BitVec 32 := v81
  ![v80.toNat, v82.toNat]
def k0_mult3 (v67 : BitVec 32) : BitVec 32 :=
  let c1024_i32_40 : BitVec 32 := 1024#32
  let v90 : BitVec 32 := Scalar.muli v67 c1024_i32_40
  v90
def k0_cond6 (v65 : BitVec 32) (v67 : BitVec 32) : BitVec 1 :=
  let v87 : BitVec 1 := Scalar.cmpi .ne v65 v67
  let v88 : BitVec 32 := Scalar.extui v87
  let c0_i32_39 : BitVec 32 := 0#32
  let v89 : BitVec 1 := Scalar.cmpi .ne v88 c0_i32_39
  v89

def k0_mult4 (v65 : BitVec 32) : BitVec 32 :=
  let c1024_i32_41 : BitVec 32 := 1024#32
  let v92 : BitVec 32 := Scalar.muli v65 c1024_i32_41
  v92
def k0_off4 (v65 : BitVec 32) (v67 : BitVec 32) : Fin 2 → Nat :=
  let c1024_i32_40 : BitVec 32 := 1024#32
  let v90 : BitVec 32 := Scalar.muli v67 c1024_i32_40
  let v91 : BitVec 32 := v90
  let c1024_i32_41 : BitVec 32 := 1024#32
  let v92 : BitVec 32 := Scalar.muli v65 c1024_i32_41
  let v93 : BitVec 32 := v92
  ![v91.toNat, v93.toNat]
def k0_mult5 (v65 : BitVec 32) : BitVec 32 :=
  let c1024_i32 : BitVec 32 := 1024#32
  let v79 : BitVec 32 := Scalar.muli v65 c1024_i32
  v79
def k0_cond7 (v65 : BitVec 32) (v67 : BitVec 32) : BitVec 1 :=
  let c10_i32_30 : BitVec 32 := 10#32
  let v71 : BitVec 1 := Scalar.cmpi .eq v67 c10_i32_30
  let c10_i32_31 : BitVec 32 := 10#32
  let v72 : BitVec 1 := Scalar.cmpi .slt v65 c10_i32_31
  let v73 : BitVec 1 := Scalar.andi v71 v72
  let v74 : BitVec 32 := Scalar.extui v73
  let c0_i32_32 : BitVec 32 := 0#32
  let v75 : BitVec 1 := Scalar.cmpi .ne v74 c0_i32_32
  v75

def k0_mult6 (v67 : BitVec 32) : BitVec 32 :=
  let c1024_i32_35 : BitVec 32 := 1024#32
  let v81 : BitVec 32 := Scalar.muli v67 c1024_i32_35
  v81
def k0_off5 (v65 : BitVec 32) (v67 : BitVec 32) : Fin 2 → Nat :=
  let c1024_i32 : BitVec 32 := 1024#32
  let v79 : BitVec 32 := Scalar.muli v65 c1024_i32
  let v80 : BitVec 32 := v79
  let c1024_i32_35 : BitVec 32 := 1024#32
  let v81 : BitVec 32 := Scalar.muli v67 c1024_i32_35
  let v82 : BitVec 32 := v81
  ![v80.toNat, v82.toNat]
def k0_mult7 (v67 : BitVec 32) : BitVec 32 :=
  let c1024_i32_39 : BitVec 32 := 1024#32
  let v87 : BitVec 32 := Scalar.muli v67 c1024_i32_39
  v87
def k0_mult8 (v65 : BitVec 32) : BitVec 32 :=
  let c1024_i32_40 : BitVec 32 := 1024#32
  let v89 : BitVec 32 := Scalar.muli v65 c1024_i32_40
  v89
def k0_off6 (v65 : BitVec 32) (v67 : BitVec 32) : Fin 2 → Nat :=
  let c1024_i32_39 : BitVec 32 := 1024#32
  let v87 : BitVec 32 := Scalar.muli v67 c1024_i32_39
  let v88 : BitVec 32 := v87
  let c1024_i32_40 : BitVec 32 := 1024#32
  let v89 : BitVec 32 := Scalar.muli v65 c1024_i32_40
  let v90 : BitVec 32 := v89
  ![v88.toNat, v90.toNat]
def k0_mult9 (v65 : BitVec 32) : BitVec 32 :=
  let c1024_i32 : BitVec 32 := 1024#32
  let v79 : BitVec 32 := Scalar.muli v65 c1024_i32
  v79
def k0_cond8 (v65 : BitVec 32) : BitVec 1 :=
  let c10_i32_33 : BitVec 32 := 10#32
  let v76 : BitVec 1 := Scalar.cmpi .eq v65 c10_i32_33
  let v77 : BitVec 32 := Scalar.extui v76
  let c0_i32_34 : BitVec 32 := 0#32
  let v78 : BitVec 1 := Scalar.cmpi .ne v77 c0_i32_34
  v78

def k0_chk2 (i : grid0.Coords) (v65 : BitVec 32) : Prop :=
  (∀ (k0_h3 : k0_cond3 i = 1#1), ∀ (k0_h4 : k0_cond4 i = 1#1), ∀ (k0_h8 : k0_cond8 v65 = 1#1), 1024 ∣ (k0_mult9 v65).toNat)
theorem k0_mult9_dvd : ∀ (i : grid0.Coords) (v65 : BitVec 32) (k0_hw2 : k0_chk2 i v65), ∀ (k0_h3 : k0_cond3 i = 1#1), ∀ (k0_h4 : k0_cond4 i = 1#1), ∀ (k0_h8 : k0_cond8 v65 = 1#1), 1024 ∣ (k0_mult9 v65).toNat := fun i v65 k0_hw2 k0_h3 k0_h4 k0_h8 => k0_hw2 k0_h3 k0_h4 k0_h8

def k0_mult10 (v67 : BitVec 32) : BitVec 32 :=
  let c1024_i32_35 : BitVec 32 := 1024#32
  let v81 : BitVec 32 := Scalar.muli v67 c1024_i32_35
  v81
def k0_off7 (v65 : BitVec 32) (v67 : BitVec 32) : Fin 2 → Nat :=
  let c1024_i32 : BitVec 32 := 1024#32
  let v79 : BitVec 32 := Scalar.muli v65 c1024_i32
  let v80 : BitVec 32 := v79
  let c1024_i32_35 : BitVec 32 := 1024#32
  let v81 : BitVec 32 := Scalar.muli v67 c1024_i32_35
  let v82 : BitVec 32 := v81
  ![v80.toNat, v82.toNat]

def k0_chk1 (i : grid0.Coords) (v65 : BitVec 32) (v67 : BitVec 32) : Prop :=
  (∀ (k0_h3 : k0_cond3 i = 1#1), ∀ (k0_h4 : k0_cond4 i = 1#1), ∀ (k0_h5 : k0_cond5 v67 = 1#1), 1024 ∣ (k0_mult1 v65).toNat) ∧
  (∀ (k0_h3 : k0_cond3 i = 1#1), ∀ (k0_h4 : k0_cond4 i = 1#1), ∀ (k0_h5 : k0_cond5 v67 = 1#1), 1024 ∣ (k0_mult2 v67).toNat) ∧
  (∀ (k0_h3 : k0_cond3 i = 1#1), ∀ (k0_h4 : k0_cond4 i = 1#1), ∀ (k0_h5 : k0_cond5 v67 = 1#1), ∀ a, (k0_off3 v65 v67) a + S1024x1024.size a ≤ S11008x11008.size a) ∧
  (∀ (k0_h3 : k0_cond3 i = 1#1), ∀ (k0_h4 : k0_cond4 i = 1#1), ∀ (k0_h5 : k0_cond5 v67 = 1#1), ∀ (k0_h6 : k0_cond6 v65 v67 = 1#1), 1024 ∣ (k0_mult3 v67).toNat) ∧
  (∀ (k0_h3 : k0_cond3 i = 1#1), ∀ (k0_h4 : k0_cond4 i = 1#1), ∀ (k0_h5 : k0_cond5 v67 = 1#1), ∀ (k0_h6 : k0_cond6 v65 v67 = 1#1), 1024 ∣ (k0_mult4 v65).toNat) ∧
  (∀ (k0_h3 : k0_cond3 i = 1#1), ∀ (k0_h4 : k0_cond4 i = 1#1), ∀ (k0_h5 : k0_cond5 v67 = 1#1), ∀ (k0_h6 : k0_cond6 v65 v67 = 1#1), ∀ a, (k0_off4 v65 v67) a + S1024x1024.size a ≤ S11008x11008.size a) ∧
  (∀ (k0_h3 : k0_cond3 i = 1#1), ∀ (k0_h4 : k0_cond4 i = 1#1), ∀ (k0_h7 : k0_cond7 v65 v67 = 1#1), 1024 ∣ (k0_mult5 v65).toNat) ∧
  (∀ (k0_h3 : k0_cond3 i = 1#1), ∀ (k0_h4 : k0_cond4 i = 1#1), ∀ (k0_h7 : k0_cond7 v65 v67 = 1#1), 1024 ∣ (k0_mult6 v67).toNat) ∧
  (∀ (k0_h3 : k0_cond3 i = 1#1), ∀ (k0_h4 : k0_cond4 i = 1#1), ∀ (k0_h7 : k0_cond7 v65 v67 = 1#1), ∀ a, (k0_off5 v65 v67) a + S1024x768.size a ≤ S11008x11008.size a) ∧
  (∀ (k0_h3 : k0_cond3 i = 1#1), ∀ (k0_h4 : k0_cond4 i = 1#1), ∀ (k0_h7 : k0_cond7 v65 v67 = 1#1), 1024 ∣ (k0_mult7 v67).toNat) ∧
  (∀ (k0_h3 : k0_cond3 i = 1#1), ∀ (k0_h4 : k0_cond4 i = 1#1), ∀ (k0_h7 : k0_cond7 v65 v67 = 1#1), 1024 ∣ (k0_mult8 v65).toNat) ∧
  (∀ (k0_h3 : k0_cond3 i = 1#1), ∀ (k0_h4 : k0_cond4 i = 1#1), ∀ (k0_h7 : k0_cond7 v65 v67 = 1#1), ∀ a, (k0_off6 v65 v67) a + S768x1024.size a ≤ S11008x11008.size a) ∧
  (∀ (k0_h3 : k0_cond3 i = 1#1), ∀ (k0_h4 : k0_cond4 i = 1#1), ∀ (k0_h8 : k0_cond8 v65 = 1#1), 1024 ∣ (k0_mult10 v67).toNat) ∧
  (∀ (k0_h3 : k0_cond3 i = 1#1), ∀ (k0_h4 : k0_cond4 i = 1#1), ∀ (k0_h8 : k0_cond8 v65 = 1#1), ∀ a, (k0_off7 v65 v67) a + S768x768.size a ≤ S11008x11008.size a)
theorem k0_mult1_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h5 : k0_cond5 v67 = 1#1), 1024 ∣ (k0_mult1 v65).toNat := fun i v65 v67 k0_hw1 k0_h3 k0_h4 k0_h5 => k0_hw1.1 k0_h3 k0_h4 k0_h5
theorem k0_mult2_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h5 : k0_cond5 v67 = 1#1), 1024 ∣ (k0_mult2 v67).toNat := fun i v65 v67 k0_hw1 k0_h3 k0_h4 k0_h5 => k0_hw1.2.1 k0_h3 k0_h4 k0_h5
theorem k0_off3_inb : ∀ (i : grid0.Coords) (v65 : BitVec 32) (v67 : BitVec 32) (k0_hw1 : k0_chk1 i v65 v67), ∀ (k0_h3 : k0_cond3 i = 1#1), ∀ (k0_h4 : k0_cond4 i = 1#1), ∀ (k0_h5 : k0_cond5 v67 = 1#1), ∀ a, (k0_off3 v65 v67) a + S1024x1024.size a ≤ S11008x11008.size a := fun i v65 v67 k0_hw1 k0_h3 k0_h4 k0_h5 => k0_hw1.2.2.1 k0_h3 k0_h4 k0_h5
theorem k0_mult3_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h5 : k0_cond5 v67 = 1#1), ∀ (k0_h6 : k0_cond6 v65 v67 = 1#1), 1024 ∣ (k0_mult3 v67).toNat := fun i v65 v67 k0_hw1 k0_h3 k0_h4 k0_h5 k0_h6 => k0_hw1.2.2.2.1 k0_h3 k0_h4 k0_h5 k0_h6
theorem k0_mult4_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h5 : k0_cond5 v67 = 1#1), ∀ (k0_h6 : k0_cond6 v65 v67 = 1#1), 1024 ∣ (k0_mult4 v65).toNat := fun i v65 v67 k0_hw1 k0_h3 k0_h4 k0_h5 k0_h6 => k0_hw1.2.2.2.2.1 k0_h3 k0_h4 k0_h5 k0_h6
theorem k0_off4_inb : ∀ (i : grid0.Coords) (v65 : BitVec 32) (v67 : BitVec 32) (k0_hw1 : k0_chk1 i v65 v67), ∀ (k0_h3 : k0_cond3 i = 1#1), ∀ (k0_h4 : k0_cond4 i = 1#1), ∀ (k0_h5 : k0_cond5 v67 = 1#1), ∀ (k0_h6 : k0_cond6 v65 v67 = 1#1), ∀ a, (k0_off4 v65 v67) a + S1024x1024.size a ≤ S11008x11008.size a := fun i v65 v67 k0_hw1 k0_h3 k0_h4 k0_h5 k0_h6 => k0_hw1.2.2.2.2.2.1 k0_h3 k0_h4 k0_h5 k0_h6
theorem k0_mult5_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h7 : k0_cond7 v65 v67 = 1#1), 1024 ∣ (k0_mult5 v65).toNat := fun i v65 v67 k0_hw1 k0_h3 k0_h4 k0_h7 => k0_hw1.2.2.2.2.2.2.1 k0_h3 k0_h4 k0_h7
theorem k0_mult6_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h7 : k0_cond7 v65 v67 = 1#1), 1024 ∣ (k0_mult6 v67).toNat := fun i v65 v67 k0_hw1 k0_h3 k0_h4 k0_h7 => k0_hw1.2.2.2.2.2.2.2.1 k0_h3 k0_h4 k0_h7
theorem k0_off5_inb : ∀ (i : grid0.Coords) (v65 : BitVec 32) (v67 : BitVec 32) (k0_hw1 : k0_chk1 i v65 v67), ∀ (k0_h3 : k0_cond3 i = 1#1), ∀ (k0_h4 : k0_cond4 i = 1#1), ∀ (k0_h7 : k0_cond7 v65 v67 = 1#1), ∀ a, (k0_off5 v65 v67) a + S1024x768.size a ≤ S11008x11008.size a := fun i v65 v67 k0_hw1 k0_h3 k0_h4 k0_h7 => k0_hw1.2.2.2.2.2.2.2.2.1 k0_h3 k0_h4 k0_h7
theorem k0_mult7_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h7 : k0_cond7 v65 v67 = 1#1), 1024 ∣ (k0_mult7 v67).toNat := fun i v65 v67 k0_hw1 k0_h3 k0_h4 k0_h7 => k0_hw1.2.2.2.2.2.2.2.2.2.1 k0_h3 k0_h4 k0_h7
theorem k0_mult8_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h7 : k0_cond7 v65 v67 = 1#1), 1024 ∣ (k0_mult8 v65).toNat := fun i v65 v67 k0_hw1 k0_h3 k0_h4 k0_h7 => k0_hw1.2.2.2.2.2.2.2.2.2.2.1 k0_h3 k0_h4 k0_h7
theorem k0_off6_inb : ∀ (i : grid0.Coords) (v65 : BitVec 32) (v67 : BitVec 32) (k0_hw1 : k0_chk1 i v65 v67), ∀ (k0_h3 : k0_cond3 i = 1#1), ∀ (k0_h4 : k0_cond4 i = 1#1), ∀ (k0_h7 : k0_cond7 v65 v67 = 1#1), ∀ a, (k0_off6 v65 v67) a + S768x1024.size a ≤ S11008x11008.size a := fun i v65 v67 k0_hw1 k0_h3 k0_h4 k0_h7 => k0_hw1.2.2.2.2.2.2.2.2.2.2.2.1 k0_h3 k0_h4 k0_h7
theorem k0_mult10_dvd : ∀ (i : grid0.Coords) (v65 : BitVec 32) (v67 : BitVec 32) (k0_hw1 : k0_chk1 i v65 v67), ∀ (k0_h3 : k0_cond3 i = 1#1), ∀ (k0_h4 : k0_cond4 i = 1#1), ∀ (k0_h8 : k0_cond8 v65 = 1#1), 1024 ∣ (k0_mult10 v67).toNat := fun i v65 v67 k0_hw1 k0_h3 k0_h4 k0_h8 => k0_hw1.2.2.2.2.2.2.2.2.2.2.2.2.1 k0_h3 k0_h4 k0_h8
theorem k0_off7_inb : ∀ (i : grid0.Coords) (v65 : BitVec 32) (v67 : BitVec 32) (k0_hw1 : k0_chk1 i v65 v67), ∀ (k0_h3 : k0_cond3 i = 1#1), ∀ (k0_h4 : k0_cond4 i = 1#1), ∀ (k0_h8 : k0_cond8 v65 = 1#1), ∀ a, (k0_off7 v65 v67) a + S768x768.size a ≤ S11008x11008.size a := fun i v65 v67 k0_hw1 k0_h3 k0_h4 k0_h8 => k0_hw1.2.2.2.2.2.2.2.2.2.2.2.2.2 k0_h3 k0_h4 k0_h8

def k0_off8 (i : grid0.Coords) : Fin 1 → Nat :=
  let arg0 : BitVec 32 := BitVec.ofNat 32 (i 0).val
  let v45 : Index := Scalar.indexCast arg0
  ![v45.toNat]
def k0_mult11 (v46 : BitVec 32) : BitVec 32 :=
  let c1024_i32 : BitVec 32 := 1024#32
  let v63 : BitVec 32 := Scalar.muli v46 c1024_i32
  v63
def k0_cond11 (v48 : BitVec 32) : BitVec 1 :=
  let c10_i32 : BitVec 32 := 10#32
  let v49 : BitVec 1 := Scalar.cmpi .slt v48 c10_i32
  let v50 : BitVec 32 := Scalar.extui v49
  let c0_i32_21 : BitVec 32 := 0#32
  let v51 : BitVec 1 := Scalar.cmpi .ne v50 c0_i32_21
  v51

def k0_mult12 (v48 : BitVec 32) : BitVec 32 :=
  let c1024_i32_28 : BitVec 32 := 1024#32
  let v65 : BitVec 32 := Scalar.muli v48 c1024_i32_28
  v65
def k0_off9 (v46 : BitVec 32) (v48 : BitVec 32) : Fin 2 → Nat :=
  let c1024_i32 : BitVec 32 := 1024#32
  let v63 : BitVec 32 := Scalar.muli v46 c1024_i32
  let v64 : BitVec 32 := v63
  let c1024_i32_28 : BitVec 32 := 1024#32
  let v65 : BitVec 32 := Scalar.muli v48 c1024_i32_28
  let v66 : BitVec 32 := v65
  ![v64.toNat, v66.toNat]
def k0_mult13 (v48 : BitVec 32) : BitVec 32 :=
  let c1024_i32_33 : BitVec 32 := 1024#32
  let v74 : BitVec 32 := Scalar.muli v48 c1024_i32_33
  v74
def k0_cond12 (v46 : BitVec 32) (v48 : BitVec 32) : BitVec 1 :=
  let v71 : BitVec 1 := Scalar.cmpi .ne v46 v48
  let v72 : BitVec 32 := Scalar.extui v71
  let c0_i32_32 : BitVec 32 := 0#32
  let v73 : BitVec 1 := Scalar.cmpi .ne v72 c0_i32_32
  v73

def k0_mult14 (v46 : BitVec 32) : BitVec 32 :=
  let c1024_i32_34 : BitVec 32 := 1024#32
  let v76 : BitVec 32 := Scalar.muli v46 c1024_i32_34
  v76
def k0_off10 (v46 : BitVec 32) (v48 : BitVec 32) : Fin 2 → Nat :=
  let c1024_i32_33 : BitVec 32 := 1024#32
  let v74 : BitVec 32 := Scalar.muli v48 c1024_i32_33
  let v75 : BitVec 32 := v74
  let c1024_i32_34 : BitVec 32 := 1024#32
  let v76 : BitVec 32 := Scalar.muli v46 c1024_i32_34
  let v77 : BitVec 32 := v76
  ![v75.toNat, v77.toNat]
def k0_mult15 (v46 : BitVec 32) : BitVec 32 :=
  let c1024_i32 : BitVec 32 := 1024#32
  let v63 : BitVec 32 := Scalar.muli v46 c1024_i32
  v63
def k0_cond13 (v46 : BitVec 32) (v48 : BitVec 32) : BitVec 1 :=
  let c10_i32_22 : BitVec 32 := 10#32
  let v52 : BitVec 1 := Scalar.cmpi .eq v48 c10_i32_22
  let c10_i32_23 : BitVec 32 := 10#32
  let v53 : BitVec 1 := Scalar.cmpi .slt v46 c10_i32_23
  let v54 : BitVec 1 := Scalar.andi v52 v53
  let v55 : BitVec 32 := Scalar.extui v54
  let c0_i32_24 : BitVec 32 := 0#32
  let v56 : BitVec 1 := Scalar.cmpi .ne v55 c0_i32_24
  v56

def k0_mult16 (v48 : BitVec 32) : BitVec 32 :=
  let c1024_i32_28 : BitVec 32 := 1024#32
  let v65 : BitVec 32 := Scalar.muli v48 c1024_i32_28
  v65
def k0_off11 (v46 : BitVec 32) (v48 : BitVec 32) : Fin 2 → Nat :=
  let c1024_i32 : BitVec 32 := 1024#32
  let v63 : BitVec 32 := Scalar.muli v46 c1024_i32
  let v64 : BitVec 32 := v63
  let c1024_i32_28 : BitVec 32 := 1024#32
  let v65 : BitVec 32 := Scalar.muli v48 c1024_i32_28
  let v66 : BitVec 32 := v65
  ![v64.toNat, v66.toNat]
def k0_mult17 (v48 : BitVec 32) : BitVec 32 :=
  let c1024_i32_32 : BitVec 32 := 1024#32
  let v71 : BitVec 32 := Scalar.muli v48 c1024_i32_32
  v71
def k0_mult18 (v46 : BitVec 32) : BitVec 32 :=
  let c1024_i32_33 : BitVec 32 := 1024#32
  let v73 : BitVec 32 := Scalar.muli v46 c1024_i32_33
  v73
def k0_off12 (v46 : BitVec 32) (v48 : BitVec 32) : Fin 2 → Nat :=
  let c1024_i32_32 : BitVec 32 := 1024#32
  let v71 : BitVec 32 := Scalar.muli v48 c1024_i32_32
  let v72 : BitVec 32 := v71
  let c1024_i32_33 : BitVec 32 := 1024#32
  let v73 : BitVec 32 := Scalar.muli v46 c1024_i32_33
  let v74 : BitVec 32 := v73
  ![v72.toNat, v74.toNat]
def k0_mult19 (v46 : BitVec 32) : BitVec 32 :=
  let c1024_i32 : BitVec 32 := 1024#32
  let v63 : BitVec 32 := Scalar.muli v46 c1024_i32
  v63
def k0_cond14 (v46 : BitVec 32) : BitVec 1 :=
  let c10_i32_25 : BitVec 32 := 10#32
  let v57 : BitVec 1 := Scalar.cmpi .eq v46 c10_i32_25
  let v58 : BitVec 32 := Scalar.extui v57
  let c0_i32_26 : BitVec 32 := 0#32
  let v59 : BitVec 1 := Scalar.cmpi .ne v58 c0_i32_26
  v59

def k0_chk4 (i : grid0.Coords) (v46 : BitVec 32) : Prop :=
  (∀ (k0_h3 : k0_cond3 i = 1#1), ∀ (k0_h14 : k0_cond14 v46 = 1#1), 1024 ∣ (k0_mult19 v46).toNat)
theorem k0_mult19_dvd : ∀ (i : grid0.Coords) (v46 : BitVec 32) (k0_hw4 : k0_chk4 i v46), ∀ (k0_h3 : k0_cond3 i = 1#1), ∀ (k0_h14 : k0_cond14 v46 = 1#1), 1024 ∣ (k0_mult19 v46).toNat := fun i v46 k0_hw4 k0_h3 k0_h14 => k0_hw4 k0_h3 k0_h14

def k0_mult20 (v48 : BitVec 32) : BitVec 32 :=
  let c1024_i32_28 : BitVec 32 := 1024#32
  let v65 : BitVec 32 := Scalar.muli v48 c1024_i32_28
  v65
def k0_off13 (v46 : BitVec 32) (v48 : BitVec 32) : Fin 2 → Nat :=
  let c1024_i32 : BitVec 32 := 1024#32
  let v63 : BitVec 32 := Scalar.muli v46 c1024_i32
  let v64 : BitVec 32 := v63
  let c1024_i32_28 : BitVec 32 := 1024#32
  let v65 : BitVec 32 := Scalar.muli v48 c1024_i32_28
  let v66 : BitVec 32 := v65
  ![v64.toNat, v66.toNat]

def k0_chk3 (i : grid0.Coords) (v46 : BitVec 32) (v48 : BitVec 32) : Prop :=
  (∀ (k0_h3 : k0_cond3 i = 1#1), ∀ (k0_h11 : k0_cond11 v48 = 1#1), 1024 ∣ (k0_mult11 v46).toNat) ∧
  (∀ (k0_h3 : k0_cond3 i = 1#1), ∀ (k0_h11 : k0_cond11 v48 = 1#1), 1024 ∣ (k0_mult12 v48).toNat) ∧
  (∀ (k0_h3 : k0_cond3 i = 1#1), ∀ (k0_h11 : k0_cond11 v48 = 1#1), ∀ a, (k0_off9 v46 v48) a + S1024x1024.size a ≤ S11008x11008.size a) ∧
  (∀ (k0_h3 : k0_cond3 i = 1#1), ∀ (k0_h11 : k0_cond11 v48 = 1#1), ∀ (k0_h12 : k0_cond12 v46 v48 = 1#1), 1024 ∣ (k0_mult13 v48).toNat) ∧
  (∀ (k0_h3 : k0_cond3 i = 1#1), ∀ (k0_h11 : k0_cond11 v48 = 1#1), ∀ (k0_h12 : k0_cond12 v46 v48 = 1#1), 1024 ∣ (k0_mult14 v46).toNat) ∧
  (∀ (k0_h3 : k0_cond3 i = 1#1), ∀ (k0_h11 : k0_cond11 v48 = 1#1), ∀ (k0_h12 : k0_cond12 v46 v48 = 1#1), ∀ a, (k0_off10 v46 v48) a + S1024x1024.size a ≤ S11008x11008.size a) ∧
  (∀ (k0_h3 : k0_cond3 i = 1#1), ∀ (k0_h13 : k0_cond13 v46 v48 = 1#1), 1024 ∣ (k0_mult15 v46).toNat) ∧
  (∀ (k0_h3 : k0_cond3 i = 1#1), ∀ (k0_h13 : k0_cond13 v46 v48 = 1#1), 1024 ∣ (k0_mult16 v48).toNat) ∧
  (∀ (k0_h3 : k0_cond3 i = 1#1), ∀ (k0_h13 : k0_cond13 v46 v48 = 1#1), ∀ a, (k0_off11 v46 v48) a + S1024x768.size a ≤ S11008x11008.size a) ∧
  (∀ (k0_h3 : k0_cond3 i = 1#1), ∀ (k0_h13 : k0_cond13 v46 v48 = 1#1), 1024 ∣ (k0_mult17 v48).toNat) ∧
  (∀ (k0_h3 : k0_cond3 i = 1#1), ∀ (k0_h13 : k0_cond13 v46 v48 = 1#1), 1024 ∣ (k0_mult18 v46).toNat) ∧
  (∀ (k0_h3 : k0_cond3 i = 1#1), ∀ (k0_h13 : k0_cond13 v46 v48 = 1#1), ∀ a, (k0_off12 v46 v48) a + S768x1024.size a ≤ S11008x11008.size a) ∧
  (∀ (k0_h3 : k0_cond3 i = 1#1), ∀ (k0_h14 : k0_cond14 v46 = 1#1), 1024 ∣ (k0_mult20 v48).toNat) ∧
  (∀ (k0_h3 : k0_cond3 i = 1#1), ∀ (k0_h14 : k0_cond14 v46 = 1#1), ∀ a, (k0_off13 v46 v48) a + S768x768.size a ≤ S11008x11008.size a)
theorem k0_mult11_dvd : ∀ (i : grid0.Coords) (v46 : BitVec 32) (v48 : BitVec 32) (k0_hw3 : k0_chk3 i v46 v48), ∀ (k0_h3 : k0_cond3 i = 1#1), ∀ (k0_h11 : k0_cond11 v48 = 1#1), 1024 ∣ (k0_mult11 v46).toNat := fun i v46 v48 k0_hw3 k0_h3 k0_h11 => k0_hw3.1 k0_h3 k0_h11
theorem k0_mult12_dvd : ∀ (i : grid0.Coords) (v46 : BitVec 32) (v48 : BitVec 32) (k0_hw3 : k0_chk3 i v46 v48), ∀ (k0_h3 : k0_cond3 i = 1#1), ∀ (k0_h11 : k0_cond11 v48 = 1#1), 1024 ∣ (k0_mult12 v48).toNat := fun i v46 v48 k0_hw3 k0_h3 k0_h11 => k0_hw3.2.1 k0_h3 k0_h11
theorem k0_off9_inb : ∀ (i : grid0.Coords) (v46 : BitVec 32) (v48 : BitVec 32) (k0_hw3 : k0_chk3 i v46 v48), ∀ (k0_h3 : k0_cond3 i = 1#1), ∀ (k0_h11 : k0_cond11 v48 = 1#1), ∀ a, (k0_off9 v46 v48) a + S1024x1024.size a ≤ S11008x11008.size a := fun i v46 v48 k0_hw3 k0_h3 k0_h11 => k0_hw3.2.2.1 k0_h3 k0_h11
theorem k0_mult13_dvd : ∀ (i : grid0.Coords) (v46 : BitVec 32) (v48 : BitVec 32) (k0_hw3 : k0_chk3 i v46 v48), ∀ (k0_h3 : k0_cond3 i = 1#1), ∀ (k0_h11 : k0_cond11 v48 = 1#1), ∀ (k0_h12 : k0_cond12 v46 v48 = 1#1), 1024 ∣ (k0_mult13 v48).toNat := fun i v46 v48 k0_hw3 k0_h3 k0_h11 k0_h12 => k0_hw3.2.2.2.1 k0_h3 k0_h11 k0_h12
theorem k0_mult14_dvd : ∀ (i : grid0.Coords) (v46 : BitVec 32) (v48 : BitVec 32) (k0_hw3 : k0_chk3 i v46 v48), ∀ (k0_h3 : k0_cond3 i = 1#1), ∀ (k0_h11 : k0_cond11 v48 = 1#1), ∀ (k0_h12 : k0_cond12 v46 v48 = 1#1), 1024 ∣ (k0_mult14 v46).toNat := fun i v46 v48 k0_hw3 k0_h3 k0_h11 k0_h12 => k0_hw3.2.2.2.2.1 k0_h3 k0_h11 k0_h12
theorem k0_off10_inb : ∀ (i : grid0.Coords) (v46 : BitVec 32) (v48 : BitVec 32) (k0_hw3 : k0_chk3 i v46 v48), ∀ (k0_h3 : k0_cond3 i = 1#1), ∀ (k0_h11 : k0_cond11 v48 = 1#1), ∀ (k0_h12 : k0_cond12 v46 v48 = 1#1), ∀ a, (k0_off10 v46 v48) a + S1024x1024.size a ≤ S11008x11008.size a := fun i v46 v48 k0_hw3 k0_h3 k0_h11 k0_h12 => k0_hw3.2.2.2.2.2.1 k0_h3 k0_h11 k0_h12
theorem k0_mult15_dvd : ∀ (i : grid0.Coords) (v46 : BitVec 32) (v48 : BitVec 32) (k0_hw3 : k0_chk3 i v46 v48), ∀ (k0_h3 : k0_cond3 i = 1#1), ∀ (k0_h13 : k0_cond13 v46 v48 = 1#1), 1024 ∣ (k0_mult15 v46).toNat := fun i v46 v48 k0_hw3 k0_h3 k0_h13 => k0_hw3.2.2.2.2.2.2.1 k0_h3 k0_h13
theorem k0_mult16_dvd : ∀ (i : grid0.Coords) (v46 : BitVec 32) (v48 : BitVec 32) (k0_hw3 : k0_chk3 i v46 v48), ∀ (k0_h3 : k0_cond3 i = 1#1), ∀ (k0_h13 : k0_cond13 v46 v48 = 1#1), 1024 ∣ (k0_mult16 v48).toNat := fun i v46 v48 k0_hw3 k0_h3 k0_h13 => k0_hw3.2.2.2.2.2.2.2.1 k0_h3 k0_h13
theorem k0_off11_inb : ∀ (i : grid0.Coords) (v46 : BitVec 32) (v48 : BitVec 32) (k0_hw3 : k0_chk3 i v46 v48), ∀ (k0_h3 : k0_cond3 i = 1#1), ∀ (k0_h13 : k0_cond13 v46 v48 = 1#1), ∀ a, (k0_off11 v46 v48) a + S1024x768.size a ≤ S11008x11008.size a := fun i v46 v48 k0_hw3 k0_h3 k0_h13 => k0_hw3.2.2.2.2.2.2.2.2.1 k0_h3 k0_h13
theorem k0_mult17_dvd : ∀ (i : grid0.Coords) (v46 : BitVec 32) (v48 : BitVec 32) (k0_hw3 : k0_chk3 i v46 v48), ∀ (k0_h3 : k0_cond3 i = 1#1), ∀ (k0_h13 : k0_cond13 v46 v48 = 1#1), 1024 ∣ (k0_mult17 v48).toNat := fun i v46 v48 k0_hw3 k0_h3 k0_h13 => k0_hw3.2.2.2.2.2.2.2.2.2.1 k0_h3 k0_h13
theorem k0_mult18_dvd : ∀ (i : grid0.Coords) (v46 : BitVec 32) (v48 : BitVec 32) (k0_hw3 : k0_chk3 i v46 v48), ∀ (k0_h3 : k0_cond3 i = 1#1), ∀ (k0_h13 : k0_cond13 v46 v48 = 1#1), 1024 ∣ (k0_mult18 v46).toNat := fun i v46 v48 k0_hw3 k0_h3 k0_h13 => k0_hw3.2.2.2.2.2.2.2.2.2.2.1 k0_h3 k0_h13
theorem k0_off12_inb : ∀ (i : grid0.Coords) (v46 : BitVec 32) (v48 : BitVec 32) (k0_hw3 : k0_chk3 i v46 v48), ∀ (k0_h3 : k0_cond3 i = 1#1), ∀ (k0_h13 : k0_cond13 v46 v48 = 1#1), ∀ a, (k0_off12 v46 v48) a + S768x1024.size a ≤ S11008x11008.size a := fun i v46 v48 k0_hw3 k0_h3 k0_h13 => k0_hw3.2.2.2.2.2.2.2.2.2.2.2.1 k0_h3 k0_h13
theorem k0_mult20_dvd : ∀ (i : grid0.Coords) (v46 : BitVec 32) (v48 : BitVec 32) (k0_hw3 : k0_chk3 i v46 v48), ∀ (k0_h3 : k0_cond3 i = 1#1), ∀ (k0_h14 : k0_cond14 v46 = 1#1), 1024 ∣ (k0_mult20 v48).toNat := fun i v46 v48 k0_hw3 k0_h3 k0_h14 => k0_hw3.2.2.2.2.2.2.2.2.2.2.2.2.1 k0_h3 k0_h14
theorem k0_off13_inb : ∀ (i : grid0.Coords) (v46 : BitVec 32) (v48 : BitVec 32) (k0_hw3 : k0_chk3 i v46 v48), ∀ (k0_h3 : k0_cond3 i = 1#1), ∀ (k0_h14 : k0_cond14 v46 = 1#1), ∀ a, (k0_off13 v46 v48) a + S768x768.size a ≤ S11008x11008.size a := fun i v46 v48 k0_hw3 k0_h3 k0_h14 => k0_hw3.2.2.2.2.2.2.2.2.2.2.2.2.2 k0_h3 k0_h14

def k0_cond15 (i : grid0.Coords) : BitVec 1 :=
  let arg0 : BitVec 32 := BitVec.ofNat 32 (i 0).val
  let c65_i32 : BitVec 32 := 65#32
  let v60 : BitVec 1 := Scalar.cmpi .eq arg0 c65_i32
  let v61 : BitVec 32 := Scalar.extui v60
  let c0_i32_27 : BitVec 32 := 0#32
  let v62 : BitVec 1 := Scalar.cmpi .ne v61 c0_i32_27
  v62

def k0_off14 (i : grid0.Coords) : Fin 1 → Nat :=
  let arg0 : BitVec 32 := BitVec.ofNat 32 (i 0).val
  let v63 : Index := Scalar.indexCast arg0
  ![v63.toNat]
def k0_mult21 (v64 : BitVec 32) : BitVec 32 :=
  let c1024_i32 : BitVec 32 := 1024#32
  let v78 : BitVec 32 := Scalar.muli v64 c1024_i32
  v78
def k0_cond16 (v66 : BitVec 32) : BitVec 1 :=
  let c10_i32_28 : BitVec 32 := 10#32
  let v67 : BitVec 1 := Scalar.cmpi .slt v66 c10_i32_28
  let v68 : BitVec 32 := Scalar.extui v67
  let c0_i32_29 : BitVec 32 := 0#32
  let v69 : BitVec 1 := Scalar.cmpi .ne v68 c0_i32_29
  v69

def k0_mult22 (v66 : BitVec 32) : BitVec 32 :=
  let c1024_i32_35 : BitVec 32 := 1024#32
  let v80 : BitVec 32 := Scalar.muli v66 c1024_i32_35
  v80
def k0_off15 (v64 : BitVec 32) (v66 : BitVec 32) : Fin 2 → Nat :=
  let c1024_i32 : BitVec 32 := 1024#32
  let v78 : BitVec 32 := Scalar.muli v64 c1024_i32
  let v79 : BitVec 32 := v78
  let c1024_i32_35 : BitVec 32 := 1024#32
  let v80 : BitVec 32 := Scalar.muli v66 c1024_i32_35
  let v81 : BitVec 32 := v80
  ![v79.toNat, v81.toNat]
def k0_mult23 (v66 : BitVec 32) : BitVec 32 :=
  let c1024_i32_40 : BitVec 32 := 1024#32
  let v89 : BitVec 32 := Scalar.muli v66 c1024_i32_40
  v89
def k0_cond17 (v64 : BitVec 32) (v66 : BitVec 32) : BitVec 1 :=
  let v86 : BitVec 1 := Scalar.cmpi .ne v64 v66
  let v87 : BitVec 32 := Scalar.extui v86
  let c0_i32_39 : BitVec 32 := 0#32
  let v88 : BitVec 1 := Scalar.cmpi .ne v87 c0_i32_39
  v88

def k0_mult24 (v64 : BitVec 32) : BitVec 32 :=
  let c1024_i32_41 : BitVec 32 := 1024#32
  let v91 : BitVec 32 := Scalar.muli v64 c1024_i32_41
  v91
def k0_off16 (v64 : BitVec 32) (v66 : BitVec 32) : Fin 2 → Nat :=
  let c1024_i32_40 : BitVec 32 := 1024#32
  let v89 : BitVec 32 := Scalar.muli v66 c1024_i32_40
  let v90 : BitVec 32 := v89
  let c1024_i32_41 : BitVec 32 := 1024#32
  let v91 : BitVec 32 := Scalar.muli v64 c1024_i32_41
  let v92 : BitVec 32 := v91
  ![v90.toNat, v92.toNat]
def k0_mult25 (v64 : BitVec 32) : BitVec 32 :=
  let c1024_i32 : BitVec 32 := 1024#32
  let v78 : BitVec 32 := Scalar.muli v64 c1024_i32
  v78
def k0_cond18 (v64 : BitVec 32) (v66 : BitVec 32) : BitVec 1 :=
  let c10_i32_30 : BitVec 32 := 10#32
  let v70 : BitVec 1 := Scalar.cmpi .eq v66 c10_i32_30
  let c10_i32_31 : BitVec 32 := 10#32
  let v71 : BitVec 1 := Scalar.cmpi .slt v64 c10_i32_31
  let v72 : BitVec 1 := Scalar.andi v70 v71
  let v73 : BitVec 32 := Scalar.extui v72
  let c0_i32_32 : BitVec 32 := 0#32
  let v74 : BitVec 1 := Scalar.cmpi .ne v73 c0_i32_32
  v74

def k0_mult26 (v66 : BitVec 32) : BitVec 32 :=
  let c1024_i32_35 : BitVec 32 := 1024#32
  let v80 : BitVec 32 := Scalar.muli v66 c1024_i32_35
  v80
def k0_off17 (v64 : BitVec 32) (v66 : BitVec 32) : Fin 2 → Nat :=
  let c1024_i32 : BitVec 32 := 1024#32
  let v78 : BitVec 32 := Scalar.muli v64 c1024_i32
  let v79 : BitVec 32 := v78
  let c1024_i32_35 : BitVec 32 := 1024#32
  let v80 : BitVec 32 := Scalar.muli v66 c1024_i32_35
  let v81 : BitVec 32 := v80
  ![v79.toNat, v81.toNat]
def k0_mult27 (v66 : BitVec 32) : BitVec 32 :=
  let c1024_i32_39 : BitVec 32 := 1024#32
  let v86 : BitVec 32 := Scalar.muli v66 c1024_i32_39
  v86
def k0_mult28 (v64 : BitVec 32) : BitVec 32 :=
  let c1024_i32_40 : BitVec 32 := 1024#32
  let v88 : BitVec 32 := Scalar.muli v64 c1024_i32_40
  v88
def k0_off18 (v64 : BitVec 32) (v66 : BitVec 32) : Fin 2 → Nat :=
  let c1024_i32_39 : BitVec 32 := 1024#32
  let v86 : BitVec 32 := Scalar.muli v66 c1024_i32_39
  let v87 : BitVec 32 := v86
  let c1024_i32_40 : BitVec 32 := 1024#32
  let v88 : BitVec 32 := Scalar.muli v64 c1024_i32_40
  let v89 : BitVec 32 := v88
  ![v87.toNat, v89.toNat]
def k0_mult29 (v64 : BitVec 32) : BitVec 32 :=
  let c1024_i32 : BitVec 32 := 1024#32
  let v78 : BitVec 32 := Scalar.muli v64 c1024_i32
  v78
def k0_cond19 (v64 : BitVec 32) : BitVec 1 :=
  let c10_i32_33 : BitVec 32 := 10#32
  let v75 : BitVec 1 := Scalar.cmpi .eq v64 c10_i32_33
  let v76 : BitVec 32 := Scalar.extui v75
  let c0_i32_34 : BitVec 32 := 0#32
  let v77 : BitVec 1 := Scalar.cmpi .ne v76 c0_i32_34
  v77

def k0_chk6 (i : grid0.Coords) (v64 : BitVec 32) : Prop :=
  (∀ (k0_h3 : k0_cond3 i = 1#1), ∀ (k0_h15 : k0_cond15 i = 1#1), ∀ (k0_h19 : k0_cond19 v64 = 1#1), 1024 ∣ (k0_mult29 v64).toNat)
theorem k0_mult29_dvd : ∀ (i : grid0.Coords) (v64 : BitVec 32) (k0_hw6 : k0_chk6 i v64), ∀ (k0_h3 : k0_cond3 i = 1#1), ∀ (k0_h15 : k0_cond15 i = 1#1), ∀ (k0_h19 : k0_cond19 v64 = 1#1), 1024 ∣ (k0_mult29 v64).toNat := fun i v64 k0_hw6 k0_h3 k0_h15 k0_h19 => k0_hw6 k0_h3 k0_h15 k0_h19

def k0_mult30 (v66 : BitVec 32) : BitVec 32 :=
  let c1024_i32_35 : BitVec 32 := 1024#32
  let v80 : BitVec 32 := Scalar.muli v66 c1024_i32_35
  v80
def k0_off19 (v64 : BitVec 32) (v66 : BitVec 32) : Fin 2 → Nat :=
  let c1024_i32 : BitVec 32 := 1024#32
  let v78 : BitVec 32 := Scalar.muli v64 c1024_i32
  let v79 : BitVec 32 := v78
  let c1024_i32_35 : BitVec 32 := 1024#32
  let v80 : BitVec 32 := Scalar.muli v66 c1024_i32_35
  let v81 : BitVec 32 := v80
  ![v79.toNat, v81.toNat]

def k0_chk5 (i : grid0.Coords) (v64 : BitVec 32) (v66 : BitVec 32) : Prop :=
  (∀ (k0_h3 : k0_cond3 i = 1#1), ∀ (k0_h15 : k0_cond15 i = 1#1), ∀ (k0_h16 : k0_cond16 v66 = 1#1), 1024 ∣ (k0_mult21 v64).toNat) ∧
  (∀ (k0_h3 : k0_cond3 i = 1#1), ∀ (k0_h15 : k0_cond15 i = 1#1), ∀ (k0_h16 : k0_cond16 v66 = 1#1), 1024 ∣ (k0_mult22 v66).toNat) ∧
  (∀ (k0_h3 : k0_cond3 i = 1#1), ∀ (k0_h15 : k0_cond15 i = 1#1), ∀ (k0_h16 : k0_cond16 v66 = 1#1), ∀ a, (k0_off15 v64 v66) a + S1024x1024.size a ≤ S11008x11008.size a) ∧
  (∀ (k0_h3 : k0_cond3 i = 1#1), ∀ (k0_h15 : k0_cond15 i = 1#1), ∀ (k0_h16 : k0_cond16 v66 = 1#1), ∀ (k0_h17 : k0_cond17 v64 v66 = 1#1), 1024 ∣ (k0_mult23 v66).toNat) ∧
  (∀ (k0_h3 : k0_cond3 i = 1#1), ∀ (k0_h15 : k0_cond15 i = 1#1), ∀ (k0_h16 : k0_cond16 v66 = 1#1), ∀ (k0_h17 : k0_cond17 v64 v66 = 1#1), 1024 ∣ (k0_mult24 v64).toNat) ∧
  (∀ (k0_h3 : k0_cond3 i = 1#1), ∀ (k0_h15 : k0_cond15 i = 1#1), ∀ (k0_h16 : k0_cond16 v66 = 1#1), ∀ (k0_h17 : k0_cond17 v64 v66 = 1#1), ∀ a, (k0_off16 v64 v66) a + S1024x1024.size a ≤ S11008x11008.size a) ∧
  (∀ (k0_h3 : k0_cond3 i = 1#1), ∀ (k0_h15 : k0_cond15 i = 1#1), ∀ (k0_h18 : k0_cond18 v64 v66 = 1#1), 1024 ∣ (k0_mult25 v64).toNat) ∧
  (∀ (k0_h3 : k0_cond3 i = 1#1), ∀ (k0_h15 : k0_cond15 i = 1#1), ∀ (k0_h18 : k0_cond18 v64 v66 = 1#1), 1024 ∣ (k0_mult26 v66).toNat) ∧
  (∀ (k0_h3 : k0_cond3 i = 1#1), ∀ (k0_h15 : k0_cond15 i = 1#1), ∀ (k0_h18 : k0_cond18 v64 v66 = 1#1), ∀ a, (k0_off17 v64 v66) a + S1024x768.size a ≤ S11008x11008.size a) ∧
  (∀ (k0_h3 : k0_cond3 i = 1#1), ∀ (k0_h15 : k0_cond15 i = 1#1), ∀ (k0_h18 : k0_cond18 v64 v66 = 1#1), 1024 ∣ (k0_mult27 v66).toNat) ∧
  (∀ (k0_h3 : k0_cond3 i = 1#1), ∀ (k0_h15 : k0_cond15 i = 1#1), ∀ (k0_h18 : k0_cond18 v64 v66 = 1#1), 1024 ∣ (k0_mult28 v64).toNat) ∧
  (∀ (k0_h3 : k0_cond3 i = 1#1), ∀ (k0_h15 : k0_cond15 i = 1#1), ∀ (k0_h18 : k0_cond18 v64 v66 = 1#1), ∀ a, (k0_off18 v64 v66) a + S768x1024.size a ≤ S11008x11008.size a) ∧
  (∀ (k0_h3 : k0_cond3 i = 1#1), ∀ (k0_h15 : k0_cond15 i = 1#1), ∀ (k0_h19 : k0_cond19 v64 = 1#1), 1024 ∣ (k0_mult30 v66).toNat) ∧
  (∀ (k0_h3 : k0_cond3 i = 1#1), ∀ (k0_h15 : k0_cond15 i = 1#1), ∀ (k0_h19 : k0_cond19 v64 = 1#1), ∀ a, (k0_off19 v64 v66) a + S768x768.size a ≤ S11008x11008.size a)
theorem k0_mult21_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h16 : k0_cond16 v66 = 1#1), 1024 ∣ (k0_mult21 v64).toNat := fun i v64 v66 k0_hw5 k0_h3 k0_h15 k0_h16 => k0_hw5.1 k0_h3 k0_h15 k0_h16
theorem k0_mult22_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h16 : k0_cond16 v66 = 1#1), 1024 ∣ (k0_mult22 v66).toNat := fun i v64 v66 k0_hw5 k0_h3 k0_h15 k0_h16 => k0_hw5.2.1 k0_h3 k0_h15 k0_h16
theorem k0_off15_inb : ∀ (i : grid0.Coords) (v64 : BitVec 32) (v66 : BitVec 32) (k0_hw5 : k0_chk5 i v64 v66), ∀ (k0_h3 : k0_cond3 i = 1#1), ∀ (k0_h15 : k0_cond15 i = 1#1), ∀ (k0_h16 : k0_cond16 v66 = 1#1), ∀ a, (k0_off15 v64 v66) a + S1024x1024.size a ≤ S11008x11008.size a := fun i v64 v66 k0_hw5 k0_h3 k0_h15 k0_h16 => k0_hw5.2.2.1 k0_h3 k0_h15 k0_h16
theorem k0_mult23_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h16 : k0_cond16 v66 = 1#1), ∀ (k0_h17 : k0_cond17 v64 v66 = 1#1), 1024 ∣ (k0_mult23 v66).toNat := fun i v64 v66 k0_hw5 k0_h3 k0_h15 k0_h16 k0_h17 => k0_hw5.2.2.2.1 k0_h3 k0_h15 k0_h16 k0_h17
theorem k0_mult24_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h16 : k0_cond16 v66 = 1#1), ∀ (k0_h17 : k0_cond17 v64 v66 = 1#1), 1024 ∣ (k0_mult24 v64).toNat := fun i v64 v66 k0_hw5 k0_h3 k0_h15 k0_h16 k0_h17 => k0_hw5.2.2.2.2.1 k0_h3 k0_h15 k0_h16 k0_h17
theorem k0_off16_inb : ∀ (i : grid0.Coords) (v64 : BitVec 32) (v66 : BitVec 32) (k0_hw5 : k0_chk5 i v64 v66), ∀ (k0_h3 : k0_cond3 i = 1#1), ∀ (k0_h15 : k0_cond15 i = 1#1), ∀ (k0_h16 : k0_cond16 v66 = 1#1), ∀ (k0_h17 : k0_cond17 v64 v66 = 1#1), ∀ a, (k0_off16 v64 v66) a + S1024x1024.size a ≤ S11008x11008.size a := fun i v64 v66 k0_hw5 k0_h3 k0_h15 k0_h16 k0_h17 => k0_hw5.2.2.2.2.2.1 k0_h3 k0_h15 k0_h16 k0_h17
theorem k0_mult25_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h18 : k0_cond18 v64 v66 = 1#1), 1024 ∣ (k0_mult25 v64).toNat := fun i v64 v66 k0_hw5 k0_h3 k0_h15 k0_h18 => k0_hw5.2.2.2.2.2.2.1 k0_h3 k0_h15 k0_h18
theorem k0_mult26_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h18 : k0_cond18 v64 v66 = 1#1), 1024 ∣ (k0_mult26 v66).toNat := fun i v64 v66 k0_hw5 k0_h3 k0_h15 k0_h18 => k0_hw5.2.2.2.2.2.2.2.1 k0_h3 k0_h15 k0_h18
theorem k0_off17_inb : ∀ (i : grid0.Coords) (v64 : BitVec 32) (v66 : BitVec 32) (k0_hw5 : k0_chk5 i v64 v66), ∀ (k0_h3 : k0_cond3 i = 1#1), ∀ (k0_h15 : k0_cond15 i = 1#1), ∀ (k0_h18 : k0_cond18 v64 v66 = 1#1), ∀ a, (k0_off17 v64 v66) a + S1024x768.size a ≤ S11008x11008.size a := fun i v64 v66 k0_hw5 k0_h3 k0_h15 k0_h18 => k0_hw5.2.2.2.2.2.2.2.2.1 k0_h3 k0_h15 k0_h18
theorem k0_mult27_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h18 : k0_cond18 v64 v66 = 1#1), 1024 ∣ (k0_mult27 v66).toNat := fun i v64 v66 k0_hw5 k0_h3 k0_h15 k0_h18 => k0_hw5.2.2.2.2.2.2.2.2.2.1 k0_h3 k0_h15 k0_h18
theorem k0_mult28_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h18 : k0_cond18 v64 v66 = 1#1), 1024 ∣ (k0_mult28 v64).toNat := fun i v64 v66 k0_hw5 k0_h3 k0_h15 k0_h18 => k0_hw5.2.2.2.2.2.2.2.2.2.2.1 k0_h3 k0_h15 k0_h18
theorem k0_off18_inb : ∀ (i : grid0.Coords) (v64 : BitVec 32) (v66 : BitVec 32) (k0_hw5 : k0_chk5 i v64 v66), ∀ (k0_h3 : k0_cond3 i = 1#1), ∀ (k0_h15 : k0_cond15 i = 1#1), ∀ (k0_h18 : k0_cond18 v64 v66 = 1#1), ∀ a, (k0_off18 v64 v66) a + S768x1024.size a ≤ S11008x11008.size a := fun i v64 v66 k0_hw5 k0_h3 k0_h15 k0_h18 => k0_hw5.2.2.2.2.2.2.2.2.2.2.2.1 k0_h3 k0_h15 k0_h18
theorem k0_mult30_dvd : ∀ (i : grid0.Coords) (v64 : BitVec 32) (v66 : BitVec 32) (k0_hw5 : k0_chk5 i v64 v66), ∀ (k0_h3 : k0_cond3 i = 1#1), ∀ (k0_h15 : k0_cond15 i = 1#1), ∀ (k0_h19 : k0_cond19 v64 = 1#1), 1024 ∣ (k0_mult30 v66).toNat := fun i v64 v66 k0_hw5 k0_h3 k0_h15 k0_h19 => k0_hw5.2.2.2.2.2.2.2.2.2.2.2.2.1 k0_h3 k0_h15 k0_h19
theorem k0_off19_inb : ∀ (i : grid0.Coords) (v64 : BitVec 32) (v66 : BitVec 32) (k0_hw5 : k0_chk5 i v64 v66), ∀ (k0_h3 : k0_cond3 i = 1#1), ∀ (k0_h15 : k0_cond15 i = 1#1), ∀ (k0_h19 : k0_cond19 v64 = 1#1), ∀ a, (k0_off19 v64 v66) a + S768x768.size a ≤ S11008x11008.size a := fun i v64 v66 k0_hw5 k0_h3 k0_h15 k0_h19 => k0_hw5.2.2.2.2.2.2.2.2.2.2.2.2.2 k0_h3 k0_h15 k0_h19

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 1 := Scalar.cmpi .sge arg0 c11_i32
  let v18 : BitVec 32 := Scalar.extui v17
  let c0_i32_4 : BitVec 32 := 0#32
  let v19 : BitVec 32 := Scalar.addi c0_i32_4 v18
  let c21_i32 : BitVec 32 := 21#32
  let v20 : BitVec 1 := Scalar.cmpi .sge arg0 c21_i32
  let v21 : BitVec 32 := Scalar.extui v20
  let v22 : BitVec 32 := Scalar.addi v19 v21
  let c30_i32 : BitVec 32 := 30#32
  let v23 : BitVec 1 := Scalar.cmpi .sge arg0 c30_i32
  let v24 : BitVec 32 := Scalar.extui v23
  let v25 : BitVec 32 := Scalar.addi v22 v24
  let c38_i32 : BitVec 32 := 38#32
  let v26 : BitVec 1 := Scalar.cmpi .sge arg0 c38_i32
  let v27 : BitVec 32 := Scalar.extui v26
  let v28 : BitVec 32 := Scalar.addi v25 v27
  let c45_i32 : BitVec 32 := 45#32
  let v29 : BitVec 1 := Scalar.cmpi .sge arg0 c45_i32
  let v30 : BitVec 32 := Scalar.extui v29
  let v31 : BitVec 32 := Scalar.addi v28 v30
  let c51_i32 : BitVec 32 := 51#32
  let v32 : BitVec 1 := Scalar.cmpi .sge arg0 c51_i32
  let v33 : BitVec 32 := Scalar.extui v32
  let v34 : BitVec 32 := Scalar.addi v31 v33
  let c56_i32 : BitVec 32 := 56#32
  let v35 : BitVec 1 := Scalar.cmpi .sge arg0 c56_i32
  let v36 : BitVec 32 := Scalar.extui v35
  let v37 : BitVec 32 := Scalar.addi v34 v36
  let c60_i32 : BitVec 32 := 60#32
  let v38 : BitVec 1 := Scalar.cmpi .sge arg0 c60_i32
  let v39 : BitVec 32 := Scalar.extui v38
  let v40 : BitVec 32 := Scalar.addi v37 v39
  let c63_i32 : BitVec 32 := 63#32
  let v41 : BitVec 1 := Scalar.cmpi .sge arg0 c63_i32
  let v42 : BitVec 32 := Scalar.extui v41
  let v43 : BitVec 32 := Scalar.addi v40 v42
  let c65_i32 : BitVec 32 := 65#32
  let v44 : BitVec 1 := Scalar.cmpi .sge arg0 c65_i32
  let v45 : BitVec 32 := Scalar.extui v44
  let v46 : BitVec 32 := Scalar.addi v43 v45
  let c2_i32_5 : BitVec 32 := 2#32
  let c0_i32_6 : BitVec 32 := 0#32
  let v47 : BitVec 1 := Scalar.cmpi .eq c2_i32_5 c0_i32_6
  let c1_i32_7 : BitVec 32 := 1#32
  let v48 : BitVec 32 := Scalar.select v47 c1_i32_7 c2_i32_5
  let v49 : BitVec 32 := Scalar.remsi arg1 v48
  let c0_i32_8 : BitVec 32 := 0#32
  let v50 : BitVec 1 := Scalar.cmpi .ne v49 c0_i32_8
  let c0_i32_9 : BitVec 32 := 0#32
  let v51 : BitVec 1 := Scalar.cmpi .slt v49 c0_i32_9
  let c0_i32_10 : BitVec 32 := 0#32
  let v52 : BitVec 1 := Scalar.cmpi .slt v48 c0_i32_10
  let v53 : BitVec 1 := Scalar.xori v51 v52
  let v54 : BitVec 1 := Scalar.andi v53 v50
  let v55 : BitVec 32 := Scalar.addi v49 v48
  let v56 : BitVec 32 := Scalar.select v54 v55 v49
  let c0_i32_11 : BitVec 32 := 0#32
  ![v16.toNat, v46.toNat, v56.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 1 := Scalar.cmpi .sge arg0 c11_i32
  let v18 : BitVec 32 := Scalar.extui v17
  let c10_i32 : BitVec 32 := 10#32
  let v19 : BitVec 32 := Scalar.muli v18 c10_i32
  let c0_i32_4 : BitVec 32 := 0#32
  let v20 : BitVec 32 := Scalar.addi c0_i32_4 v19
  let c21_i32 : BitVec 32 := 21#32
  let v21 : BitVec 1 := Scalar.cmpi .sge arg0 c21_i32
  let v22 : BitVec 32 := Scalar.extui v21
  let c9_i32 : BitVec 32 := 9#32
  let v23 : BitVec 32 := Scalar.muli v22 c9_i32
  let v24 : BitVec 32 := Scalar.addi v20 v23
  let c30_i32 : BitVec 32 := 30#32
  let v25 : BitVec 1 := Scalar.cmpi .sge arg0 c30_i32
  let v26 : BitVec 32 := Scalar.extui v25
  let c8_i32 : BitVec 32 := 8#32
  let v27 : BitVec 32 := Scalar.muli v26 c8_i32
  let v28 : BitVec 32 := Scalar.addi v24 v27
  let c38_i32 : BitVec 32 := 38#32
  let v29 : BitVec 1 := Scalar.cmpi .sge arg0 c38_i32
  let v30 : BitVec 32 := Scalar.extui v29
  let c7_i32 : BitVec 32 := 7#32
  let v31 : BitVec 32 := Scalar.muli v30 c7_i32
  let v32 : BitVec 32 := Scalar.addi v28 v31
  let c45_i32 : BitVec 32 := 45#32
  let v33 : BitVec 1 := Scalar.cmpi .sge arg0 c45_i32
  let v34 : BitVec 32 := Scalar.extui v33
  let c6_i32 : BitVec 32 := 6#32
  let v35 : BitVec 32 := Scalar.muli v34 c6_i32
  let v36 : BitVec 32 := Scalar.addi v32 v35
  let c51_i32 : BitVec 32 := 51#32
  let v37 : BitVec 1 := Scalar.cmpi .sge arg0 c51_i32
  let v38 : BitVec 32 := Scalar.extui v37
  let c5_i32 : BitVec 32 := 5#32
  let v39 : BitVec 32 := Scalar.muli v38 c5_i32
  let v40 : BitVec 32 := Scalar.addi v36 v39
  let c56_i32 : BitVec 32 := 56#32
  let v41 : BitVec 1 := Scalar.cmpi .sge arg0 c56_i32
  let v42 : BitVec 32 := Scalar.extui v41
  let c4_i32 : BitVec 32 := 4#32
  let v43 : BitVec 32 := Scalar.muli v42 c4_i32
  let v44 : BitVec 32 := Scalar.addi v40 v43
  let c60_i32 : BitVec 32 := 60#32
  let v45 : BitVec 1 := Scalar.cmpi .sge arg0 c60_i32
  let v46 : BitVec 32 := Scalar.extui v45
  let c3_i32 : BitVec 32 := 3#32
  let v47 : BitVec 32 := Scalar.muli v46 c3_i32
  let v48 : BitVec 32 := Scalar.addi v44 v47
  let c63_i32 : BitVec 32 := 63#32
  let v49 : BitVec 1 := Scalar.cmpi .sge arg0 c63_i32
  let v50 : BitVec 32 := Scalar.extui v49
  let c2_i32_5 : BitVec 32 := 2#32
  let v51 : BitVec 32 := Scalar.muli v50 c2_i32_5
  let v52 : BitVec 32 := Scalar.addi v48 v51
  let c65_i32 : BitVec 32 := 65#32
  let v53 : BitVec 1 := Scalar.cmpi .sge arg0 c65_i32
  let v54 : BitVec 32 := Scalar.extui v53
  let c1_i32_6 : BitVec 32 := 1#32
  let v55 : BitVec 32 := Scalar.muli v54 c1_i32_6
  let v56 : BitVec 32 := Scalar.addi v52 v55
  let v57 : BitVec 32 := Scalar.subi arg0 v56
  let c2_i32_7 : BitVec 32 := 2#32
  let c0_i32_8 : BitVec 32 := 0#32
  let v58 : BitVec 1 := Scalar.cmpi .eq c2_i32_7 c0_i32_8
  let c1_i32_9 : BitVec 32 := 1#32
  let v59 : BitVec 32 := Scalar.select v58 c1_i32_9 c2_i32_7
  let v60 : BitVec 32 := Scalar.remsi arg1 v59
  let c0_i32_10 : BitVec 32 := 0#32
  let v61 : BitVec 1 := Scalar.cmpi .ne v60 c0_i32_10
  let c0_i32_11 : BitVec 32 := 0#32
  let v62 : BitVec 1 := Scalar.cmpi .slt v60 c0_i32_11
  let c0_i32_12 : BitVec 32 := 0#32
  let v63 : BitVec 1 := Scalar.cmpi .slt v59 c0_i32_12
  let v64 : BitVec 1 := Scalar.xori v62 v63
  let v65 : BitVec 1 := Scalar.andi v64 v61
  let v66 : BitVec 32 := Scalar.addi v60 v59
  let v67 : BitVec 32 := Scalar.select v65 v66 v60
  let c0_i32_13 : BitVec 32 := 0#32
  ![v16.toNat, v57.toNat, v67.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .sge arg0 c11_i32
  let v1 : BitVec 32 := Scalar.extui v0
  let c0_i32 : BitVec 32 := 0#32
  let v2 : BitVec 32 := Scalar.addi c0_i32 v1
  let c21_i32 : BitVec 32 := 21#32
  let v3 : BitVec 1 := Scalar.cmpi .sge arg0 c21_i32
  let v4 : BitVec 32 := Scalar.extui v3
  let v5 : BitVec 32 := Scalar.addi v2 v4
  let c30_i32 : BitVec 32 := 30#32
  let v6 : BitVec 1 := Scalar.cmpi .sge arg0 c30_i32
  let v7 : BitVec 32 := Scalar.extui v6
  let v8 : BitVec 32 := Scalar.addi v5 v7
  let c38_i32 : BitVec 32 := 38#32
  let v9 : BitVec 1 := Scalar.cmpi .sge arg0 c38_i32
  let v10 : BitVec 32 := Scalar.extui v9
  let v11 : BitVec 32 := Scalar.addi v8 v10
  let c45_i32 : BitVec 32 := 45#32
  let v12 : BitVec 1 := Scalar.cmpi .sge arg0 c45_i32
  let v13 : BitVec 32 := Scalar.extui v12
  let v14 : BitVec 32 := Scalar.addi v11 v13
  let c51_i32 : BitVec 32 := 51#32
  let v15 : BitVec 1 := Scalar.cmpi .sge arg0 c51_i32
  let v16 : BitVec 32 := Scalar.extui v15
  let v17 : BitVec 32 := Scalar.addi v14 v16
  let c56_i32 : BitVec 32 := 56#32
  let v18 : BitVec 1 := Scalar.cmpi .sge arg0 c56_i32
  let v19 : BitVec 32 := Scalar.extui v18
  let v20 : BitVec 32 := Scalar.addi v17 v19
  let c60_i32 : BitVec 32 := 60#32
  let v21 : BitVec 1 := Scalar.cmpi .sge arg0 c60_i32
  let v22 : BitVec 32 := Scalar.extui v21
  let v23 : BitVec 32 := Scalar.addi v20 v22
  let c63_i32 : BitVec 32 := 63#32
  let v24 : BitVec 1 := Scalar.cmpi .sge arg0 c63_i32
  let v25 : BitVec 32 := Scalar.extui v24
  let v26 : BitVec 32 := Scalar.addi v23 v25
  let c65_i32 : BitVec 32 := 65#32
  let v27 : BitVec 1 := Scalar.cmpi .sge arg0 c65_i32
  let v28 : BitVec 32 := Scalar.extui v27
  let v29 : BitVec 32 := Scalar.addi v26 v28
  let c11_i32_0 : BitVec 32 := 11#32
  let v30 : BitVec 1 := Scalar.cmpi .sge arg0 c11_i32_0
  let v31 : BitVec 32 := Scalar.extui v30
  let c10_i32 : BitVec 32 := 10#32
  let v32 : BitVec 32 := Scalar.muli v31 c10_i32
  let c0_i32_1 : BitVec 32 := 0#32
  let v33 : BitVec 32 := Scalar.addi c0_i32_1 v32
  let c21_i32_2 : BitVec 32 := 21#32
  let v34 : BitVec 1 := Scalar.cmpi .sge arg0 c21_i32_2
  let v35 : BitVec 32 := Scalar.extui v34
  let c9_i32 : BitVec 32 := 9#32
  let v36 : BitVec 32 := Scalar.muli v35 c9_i32
  let v37 : BitVec 32 := Scalar.addi v33 v36
  let c30_i32_3 : BitVec 32 := 30#32
  let v38 : BitVec 1 := Scalar.cmpi .sge arg0 c30_i32_3
  let v39 : BitVec 32 := Scalar.extui v38
  let c8_i32 : BitVec 32 := 8#32
  let v40 : BitVec 32 := Scalar.muli v39 c8_i32
  let v41 : BitVec 32 := Scalar.addi v37 v40
  let c38_i32_4 : BitVec 32 := 38#32
  let v42 : BitVec 1 := Scalar.cmpi .sge arg0 c38_i32_4
  let v43 : BitVec 32 := Scalar.extui v42
  let c7_i32 : BitVec 32 := 7#32
  let v44 : BitVec 32 := Scalar.muli v43 c7_i32
  let v45 : BitVec 32 := Scalar.addi v41 v44
  let c45_i32_5 : BitVec 32 := 45#32
  let v46 : BitVec 1 := Scalar.cmpi .sge arg0 c45_i32_5
  let v47 : BitVec 32 := Scalar.extui v46
  let c6_i32 : BitVec 32 := 6#32
  let v48 : BitVec 32 := Scalar.muli v47 c6_i32
  let v49 : BitVec 32 := Scalar.addi v45 v48
  let c51_i32_6 : BitVec 32 := 51#32
  let v50 : BitVec 1 := Scalar.cmpi .sge arg0 c51_i32_6
  let v51 : BitVec 32 := Scalar.extui v50
  let c5_i32 : BitVec 32 := 5#32
  let v52 : BitVec 32 := Scalar.muli v51 c5_i32
  let v53 : BitVec 32 := Scalar.addi v49 v52
  let c56_i32_7 : BitVec 32 := 56#32
  let v54 : BitVec 1 := Scalar.cmpi .sge arg0 c56_i32_7
  let v55 : BitVec 32 := Scalar.extui v54
  let c4_i32 : BitVec 32 := 4#32
  let v56 : BitVec 32 := Scalar.muli v55 c4_i32
  let v57 : BitVec 32 := Scalar.addi v53 v56
  let c60_i32_8 : BitVec 32 := 60#32
  let v58 : BitVec 1 := Scalar.cmpi .sge arg0 c60_i32_8
  let v59 : BitVec 32 := Scalar.extui v58
  let c3_i32 : BitVec 32 := 3#32
  let v60 : BitVec 32 := Scalar.muli v59 c3_i32
  let v61 : BitVec 32 := Scalar.addi v57 v60
  let c63_i32_9 : BitVec 32 := 63#32
  let v62 : BitVec 1 := Scalar.cmpi .sge arg0 c63_i32_9
  let v63 : BitVec 32 := Scalar.extui v62
  let c2_i32 : BitVec 32 := 2#32
  let v64 : BitVec 32 := Scalar.muli v63 c2_i32
  let v65 : BitVec 32 := Scalar.addi v61 v64
  let c65_i32_10 : BitVec 32 := 65#32
  let v66 : BitVec 1 := Scalar.cmpi .sge arg0 c65_i32_10
  let v67 : BitVec 32 := Scalar.extui v66
  let c1_i32 : BitVec 32 := 1#32
  let v68 : BitVec 32 := Scalar.muli v67 c1_i32
  let v69 : BitVec 32 := Scalar.addi v65 v68
  let v70 : BitVec 32 := Scalar.subi arg0 v69
  let c0_i32_11 : BitVec 32 := 0#32
  ![v29.toNat, v70.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8x11008x2048 : Shape := ⟨3, ![8, 11008, 2048]⟩
abbrev S8x2048 : Shape := ⟨2, ![8, 2048]⟩
abbrev S11008x11008 : Shape := ⟨2, ![11008, 11008]⟩
abbrev S_ : Shape := ⟨0, ![]⟩
abbrev S8x1x2048 : Shape := ⟨3, ![8, 1, 2048]⟩

abbrev nBuf : Space → Nat
  | .hbm => 43
  | .vmem => 2
  | .smem => 0
  | _ => 0

abbrev bufTy : (tb : Table) → Fin (tcTables nBuf tb) → BufTy
  | .hbm, ⟨0, _⟩ => ⟨S8x11008x2048, .fp8e4m3⟩
  | .hbm, ⟨1, _⟩ => ⟨S8x2048, .f32⟩
  | .hbm, ⟨2, _⟩ => ⟨S11008x11008, .f32⟩
  | .hbm, ⟨3, _⟩ => ⟨S_, .i32⟩
  | .hbm, ⟨4, _⟩ => ⟨S8x11008x2048, .bf16⟩
  | .hbm, ⟨5, _⟩ => ⟨S8x1x2048, .f32⟩
  | .hbm, ⟨6, _⟩ => ⟨S8x1x2048, .bf16⟩
  | .hbm, ⟨7, _⟩ => ⟨S8x11008x2048, .bf16⟩
  | .hbm, ⟨8, _⟩ => ⟨S8x11008x2048, .bf16⟩
  | .hbm, ⟨9, _⟩ => ⟨S11008x11008, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S11008x11008, .f32⟩
  | .hbm, ⟨17, _⟩ => ⟨S11008x11008, .f32⟩
  | .hbm, ⟨18, _⟩ => ⟨S11008x11008, .f32⟩
  | .hbm, ⟨19, _⟩ => ⟨S11008x11008, .f32⟩
  | .hbm, ⟨20, _⟩ => ⟨S11008x11008, .f32⟩
  | .hbm, ⟨21, _⟩ => ⟨S11008x11008, .i32⟩
  | .hbm, ⟨22, _⟩ => ⟨S_, .i32⟩
  | .hbm, ⟨23, _⟩ => ⟨S11008x11008, .i32⟩
  | .hbm, ⟨24, _⟩ => ⟨S11008x11008, .i32⟩
  | .hbm, ⟨25, _⟩ => ⟨S11008x11008, .i32⟩
  | .hbm, ⟨26, _⟩ => ⟨S11008x11008, .i1⟩
  | .hbm, ⟨27, _⟩ => ⟨S_, .f32⟩
  | .hbm, ⟨28, _⟩ => ⟨S11008x11008, .f32⟩
  | .hbm, ⟨29, _⟩ => ⟨S11008x11008, .f32⟩
  | .hbm, ⟨30, _⟩ => ⟨S11008x11008, .i32⟩
  | .hbm, ⟨31, _⟩ => ⟨S_, .i32⟩
  | .hbm, ⟨32, _⟩ => ⟨S11008x11008, .i32⟩
  | .hbm, ⟨33, _⟩ => ⟨S11008x11008, .i32⟩
  | .hbm, ⟨34, _⟩ => ⟨S11008x11008, .i32⟩
  | .hbm, ⟨35, _⟩ => ⟨S11008x11008, .i1⟩
  | .hbm, ⟨36, _⟩ => ⟨S_, .f32⟩
  | .hbm, ⟨37, _⟩ => ⟨S11008x11008, .f32⟩
  | .hbm, ⟨38, _⟩ => ⟨S11008x11008, .f32⟩
  | .hbm, ⟨39, _⟩ => ⟨S11008x11008, .f32⟩
  | .hbm, ⟨40, _⟩ => ⟨S11008x11008, .f32⟩
  | .hbm, ⟨41, _⟩ => ⟨S_, .i32⟩
  | .hbm, ⟨42, _⟩ => ⟨S_, .i32⟩
  | .local _ .vmem, ⟨0, _⟩ => ⟨S8x11008x2048, .fp8e4m3⟩
  | .local _ .vmem, ⟨1, _⟩ => ⟨S8x11008x2048, .bf16⟩
  | _, _ => ⟨S8x11008x2048, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v15 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_cst : Ref sig .tc := ⟨.hbm, 36, rfl⟩
abbrev main_call1_v5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x11008x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x11008x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Tables.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The 66 block pairs `(row, col)` the kernel walks: what its two tables hold, and what its printed conditions and
    offsets say at each pair. Every fact here is decided over the 66 pairs. -/

/-- The block row of pair `p`. -/
def bi (p : Fin 66) : ℕ := (lit0 p).toNat
/-- The block column of pair `p`. -/
def bj (p : Fin 66) : ℕ := (lit1 p).toNat

theorem bi_le_bj : ∀ p, bi p ≤ bj p := by decide +kernel
theorem bj_le : ∀ p, bj p ≤ 10 := by decide +kernel
theorem pair_inj : ∀ p q, bi p = bi q → bj p = bj q → p = q := by decide +kernel
theorem pair_surj : ∀ a b : Fin 11, a ≤ b → ∃ p, bi p = a.val ∧ bj p = b.val := by decide +kernel
theorem word_eq_iff : ∀ p, lit0 p = lit1 p ↔ bi p = bj p := by decide +kernel
theorem bi_ten : ∀ p, bi p = 10 ↔ p = 65 := by decide +kernel

/-! ### The words the body reads off the tables -/

/-- The table of a literal list, read through any one-element box at offset `n`, is the list's entry `n`. -/
theorem readTab (lit : Fin 66 → BitVec 32) (p : Fin 66) (off : Fin 1 → ℕ) (ho : off 0 = p.val) :
    (∀ (h : ∀ a, off a + S1.size a ≤ S66.size a) (x : S1.Idx), (Memref.whole main_c).view.readAt (Elt F) (Rect.unit (s := S66) off S1.size h).toLoadRect (fun i => lit (S66.rowMajor i)) x = lit p)
    ∧ (∀ (h : ∀ a, off a + S1.size a ≤ S66.size a) (x : S1.Idx), (Memref.whole main_c_0).view.readAt (Elt F) (Rect.unit (s := S66) off S1.size h).toLoadRect (fun i => lit (S66.rowMajor i)) x = lit p) := by
  have key : ∀ (h : ∀ a, off a + S1.size a ≤ S66.size a) (x : S1.Idx), S66.rowMajor ((Rect.unit (s := S66) off S1.size h).toLoadRect.idx x) = p := by
    intro h x
    apply Fin.ext
    have h1 : (S66.rowMajor ((Rect.unit (s := S66) off S1.size h).toLoadRect.idx x)).val = ((Rect.unit (s := S66) off S1.size h).toLoadRect.idx x 0).val := by
      refine (Shape.rowMajorPi_succ_val (n := 0) S66.size _).trans ?_
      simp [Shape.rowMajorPi, Shape.rankPi]
    rw [h1, ← ho]
    have hx : (x 0).val = 0 := by have := (x 0).isLt; change (x 0).val < 1 at this; omega
    change off 0 + 1 * (x 0).val = off 0
    omega
  constructor
  · intro h x; change lit (S66.rowMajor ((Rect.unit (s := S66) off S1.size h).toLoadRect.idx x)) = lit p; rw [key]
  · intro h x; change lit (S66.rowMajor ((Rect.unit (s := S66) off S1.size h).toLoadRect.idx x)) = lit p; rw [key]

/-- What the first table holds. -/
abbrev tab0 : S66.Idx → Elt F .i32 := fun i => lit0 (S66.rowMajor i)
/-- What the second table holds. -/
abbrev tab1 : S66.Idx → Elt F .i32 := fun i => lit1 (S66.rowMajor i)

theorem off1_val (i : grid0.Coords) : k0_off1 i 0 = (i 0).val := by
  have h : ∀ p : Fin 66, (Scalar.indexCast (BitVec.ofNat 32 p.val) : Index).toNat = p.val := by decide +kernel
  exact h (i 0)
theorem off8_val (i : grid0.Coords) : k0_off8 i 0 = (i 0).val := off1_val i
theorem off14_val (i : grid0.Coords) : k0_off14 i 0 = (i 0).val := off1_val i
theorem off2_val (i : grid0.Coords) (h : 0 < (i 0).val) : k0_off2 i 0 = (i 0).val - 1 := by
  have h' : ∀ p : Fin 66, 0 < p.val → (Scalar.indexCast (Scalar.subi (BitVec.ofNat 32 p.val) 1#32) : Index).toNat = p.val - 1 := by decide +kernel
  exact h' (i 0) h

/-! ### The grid conditions -/

theorem cond1_iff (i : grid0.Coords) : Scalar.cmpi .ne (Scalar.extui (Scalar.cmpi .eq (BitVec.ofNat 32 (i 1).val) 0#32) : BitVec 32) 0#32 = 1#1 ↔ (i 1).val = 0 := by
  have h : ∀ k : Fin 16, Scalar.cmpi .ne (Scalar.extui (Scalar.cmpi .eq (BitVec.ofNat 32 k.val) 0#32) : BitVec 32) 0#32 = 1#1 ↔ k.val = 0 := by decide +kernel
  exact h (i 1)
theorem cond2_iff (i : grid0.Coords) : Scalar.cmpi .ne (Scalar.extui (Scalar.cmpi .sgt (BitVec.ofNat 32 (i 1).val) 0#32) : BitVec 32) 0#32 = 1#1 ↔ 0 < (i 1).val := by
  have h : ∀ k : Fin 16, Scalar.cmpi .ne (Scalar.extui (Scalar.cmpi .sgt (BitVec.ofNat 32 k.val) 0#32) : BitVec 32) 0#32 = 1#1 ↔ 0 < k.val := by decide +kernel
  exact h (i 1)
theorem cond3_iff (i : grid0.Coords) : k0_cond3 i = 1#1 ↔ (i 1).val = 15 := by
  have h : ∀ k : Fin 16, Scalar.cmpi .ne (Scalar.extui (Scalar.cmpi .eq (BitVec.ofNat 32 k.val) 15#32) : BitVec 32) 0#32 = 1#1 ↔ k.val = 15 := by decide +kernel
  exact h (i 1)
theorem cond4_iff (i : grid0.Coords) : k0_cond4 i = 1#1 ↔ 0 < (i 0).val := by
  have h : ∀ k : Fin 66, Scalar.cmpi .ne (Scalar.extui (Scalar.cmpi .sgt (BitVec.ofNat 32 k.val) 0#32) : BitVec 32) 0#32 = 1#1 ↔ 0 < k.val := by decide +kernel
  exact h (i 0)
theorem cond15_iff (i : grid0.Coords) : k0_cond15 i = 1#1 ↔ (i 0).val = 65 := by
  have h : ∀ k : Fin 66, Scalar.cmpi .ne (Scalar.extui (Scalar.cmpi .eq (BitVec.ofNat 32 k.val) 65#32) : BitVec 32) 0#32 = 1#1 ↔ k.val = 65 := by decide +kernel
  exact h (i 0)

/-! ### The checked side conditions hold at every pair -/

theorem chk1 (i : grid0.Coords) (p : Fin 66) : k0_chk1 i (lit0 p) (lit1 p) := by
  refine ⟨fun _ _ => ?_, fun _ _ => ?_, fun _ _ => ?_, fun _ _ => ?_, fun _ _ => ?_, fun _ _ => ?_, fun _ _ => ?_, fun _ _ => ?_, fun _ _ => ?_, fun _ _ => ?_, fun _ _ => ?_, fun _ _ => ?_, fun _ _ => ?_, fun _ _ => ?_⟩ <;> revert p <;> decide +kernel
theorem chk2 (i : grid0.Coords) (p : Fin 66) : k0_chk2 i (lit0 p) := by
  refine fun _ _ => ?_; revert p; decide +kernel
theorem chk3 (i : grid0.Coords) (p : Fin 66) : k0_chk3 i (lit0 p) (lit1 p) := by
  refine ⟨fun _ => ?_, fun _ => ?_, fun _ => ?_, fun _ => ?_, fun _ => ?_, fun _ => ?_, fun _ => ?_, fun _ => ?_, fun _ => ?_, fun _ => ?_, fun _ => ?_, fun _ => ?_, fun _ => ?_, fun _ => ?_⟩ <;> revert p <;> decide +kernel
theorem chk4 (i : grid0.Coords) (p : Fin 66) : k0_chk4 i (lit0 p) := by
  refine fun _ => ?_; revert p; decide +kernel
theorem chk5 (i : grid0.Coords) (p : Fin 66) : k0_chk5 i (lit0 p) (lit1 p) := by
  refine ⟨fun _ _ => ?_, fun _ _ => ?_, fun _ _ => ?_, fun _ _ => ?_, fun _ _ => ?_, fun _ _ => ?_, fun _ _ => ?_, fun _ _ => ?_, fun _ _ => ?_, fun _ _ => ?_, fun _ _ => ?_, fun _ _ => ?_, fun _ _ => ?_, fun _ _ => ?_⟩ <;> revert p <;> decide +kernel
theorem chk6 (i : grid0.Coords) (p : Fin 66) : k0_chk6 i (lit0 p) := by
  refine fun _ _ => ?_; revert p; decide +kernel

/-! ### Which transfers a pair takes -/

theorem wait_conds : ∀ p : Fin 66, (k0_cond5 (lit1 p) = 1#1 ↔ bj p < 10) ∧ (k0_cond6 (lit0 p) (lit1 p) = 1#1 ↔ bi p ≠ bj p)
    ∧ (k0_cond7 (lit0 p) (lit1 p) = 1#1 ↔ bj p = 10 ∧ bi p < 10) ∧ (k0_cond8 (lit0 p) = 1#1 ↔ bi p = 10) := by decide +kernel
theorem issue_conds : ∀ p : Fin 66, (k0_cond11 (lit1 p) = 1#1 ↔ bj p < 10) ∧ (k0_cond12 (lit0 p) (lit1 p) = 1#1 ↔ bi p ≠ bj p)
    ∧ (k0_cond13 (lit0 p) (lit1 p) = 1#1 ↔ bj p = 10 ∧ bi p < 10) ∧ (k0_cond14 (lit0 p) = 1#1 ↔ bi p = 10) := by decide +kernel
theorem final_conds : ¬ k0_cond16 (lit1 65) = 1#1 ∧ ¬ k0_cond18 (lit0 65) (lit1 65) = 1#1 ∧ k0_cond19 (lit0 65) = 1#1 := by decide +kernel

/-- Where each transfer of a pair lands in the result. -/
theorem offs : ∀ p : Fin 66, (∀ a, k0_off9 (lit0 p) (lit1 p) a = (![bi p * 1024, bj p * 1024] : Fin 2 → ℕ) a) ∧ (∀ a, k0_off10 (lit0 p) (lit1 p) a = (![bj p * 1024, bi p * 1024] : Fin 2 → ℕ) a)
    ∧ (∀ a, k0_off11 (lit0 p) (lit1 p) a = (![bi p * 1024, bj p * 1024] : Fin 2 → ℕ) a) ∧ (∀ a, k0_off12 (lit0 p) (lit1 p) a = (![bj p * 1024, bi p * 1024] : Fin 2 → ℕ) a)
    ∧ (∀ a, k0_off13 (lit0 p) (lit1 p) a = (![bi p * 1024, bj p * 1024] : Fin 2 → ℕ) a) := by decide +kernel

/-- The off-diagonal branches of the body are taken exactly off the diagonal. -/
theorem branch_ne : ∀ p : Fin 66, Scalar.cmpi .ne (Scalar.extui (Scalar.cmpi .ne (lit0 p) (lit1 p)) : BitVec 32) 0#32 = 1#1 ↔ bi p ≠ bj p := by decide +kernel
theorem branch_eq : ∀ p : Fin 66, Scalar.cmpi .ne (Scalar.extui (Scalar.cmpi .eq (lit0 p) (lit1 p)) : BitVec 32) 0#32 = 1#1 ↔ bi p = bj p := by decide +kernel

end Cert.KernelIdeal.Hand
end
-- ==== Proof.Segs.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The kernel body cut into its five consecutive stretches, each the printed operations followed by a continuation:
    the accumulation step, the waits on the previous pair's transfers, the final block, the new pair's transfers, and
    the last pair's own waits. The two equations at the end say the stretches are the body. -/

set_option cleanup.letToHave false
set_option maxRecDepth 65536

/-- The accumulation step: this step's product, put in the accumulator at the first step and added to it after. -/
noncomputable def preSeg (i : grid0.Coords) (arg2 : Memref sig .tc .smem S66 .i32) (harg2 : arg2.IsWhole) (arg3 : Memref sig .tc .smem S66 .i32) (harg3 : arg3.IsWhole) (arg4 : Memref sig .tc .smem S2 .f32) (harg4 : arg4.IsWhole) (arg5 : Memref sig .tc .vmem S1x1024x1024 .fp8e4m3) (harg5 : arg5.IsWhole) (arg6 : Memref sig .tc .vmem S1x1024x1024 .fp8e4m3) (harg6 : arg6.IsWhole) (arg7 : Memref sig .tc .vmem S1x1x1024 .f32) (harg7 : arg7.IsWhole) (arg8 : Memref sig .tc .vmem S1024x1024 .f32) (harg8 : arg8.IsWhole) (arg9 : Memref sig .tc .hbm S11008x11008 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) {α : Type} (k : Elt F .i32 → Elt F .i32 → Prog (TpuEff nD τ sig (Elt F) Λ₀ .tc) α) :
    Prog (TpuEff nD τ sig (Elt F) Λ₀ .tc) α := do
  let arg0 : BitVec 32 := BitVec.ofNat 32 (i 0).val
  let arg1 : BitVec 32 := BitVec.ofNat 32 (i 1).val
  let v1 : Elt F .i32 ← smemLoad arg2 (Rect.unit (s := S66) (k0_off1 i) S1.size (k0_off1_inb i)) numel1_S1 rfl
  let v3 : Elt F .i32 ← smemLoad arg3 (Rect.unit (s := S66) (k0_off1 i) S1.size (k0_off1_inb i)) numel1_S1 rfl
  let v4 : Vec F S1x1x1024 .f32 ← Prog.lift (.load arg7 (Rect.unit (s := S1x1x1024) ![0, 0, 0] S1x1x1024.size inb_S1x1x1024_S1x1x1024_0_0_0).toLoadRect (View.loadsAt_vmem h_S1x1x1024))
  let v7 : Vec F S1x1024x1024 .fp8e4m3 ← Prog.lift (.load arg5 (Rect.unit (s := S1x1024x1024) ![0, 0, 0] S1x1024x1024.size inb_S1x1024x1024_S1x1024x1024_0_0_0).toLoadRect (View.loadsAt_vmem h_S1x1024x1024))
  let v12 : Vec F S1x1024x1024 .fp8e4m3 ← Prog.lift (.load arg6 (Rect.unit (s := S1x1024x1024) ![0, 0, 0] S1x1024x1024.size inb_S1x1024x1024_S1x1024x1024_0_0_0).toLoadRect (View.loadsAt_vmem h_S1x1024x1024))
  let v18 : BitVec 1 := Scalar.cmpi .eq arg1 0#32
  let v19 : BitVec 32 := Scalar.extui v18
  let v20 : BitVec 1 := Scalar.cmpi .ne v19 0#32
  if k0_h1 : v20 = 1#1 then do
    let v27 : Vec F S1024x1024 .f32 ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (k0_pay2 v4 v7 v12) Finset.univ (View.stores_vmem_bits_univ h_S1024x1024 rfl) (.inl rfl))
    pure ⟨⟩
  else do
    pure ⟨⟩
  let v21 : BitVec 1 := Scalar.cmpi .sgt arg1 0#32
  let v22 : BitVec 32 := Scalar.extui v21
  let v23 : BitVec 1 := Scalar.cmpi .ne v22 0#32
  if k0_h2 : v23 = 1#1 then do
    let v27 : Vec F S1024x1024 .f32 ← Prog.lift (.load arg10 (Rect.unit (s := S1024x1024) ![0, 0] S1024x1024.size inb_S1024x1024_S1024x1024_0_0).toLoadRect (View.loadsAt_vmem h_S1024x1024))
    let v29 : Vec F S1024x1024 .f32 ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (k0_pay3 v4 v7 v12 v27) Finset.univ (View.stores_vmem_bits_univ h_S1024x1024 rfl) (.inl rfl))
    pure ⟨⟩
  else do
    pure ⟨⟩
  k v1 v3

/-- The waits on the previous pair's transfers. -/
noncomputable def waitSeg (i : grid0.Coords) (arg2 : Memref sig .tc .smem S66 .i32) (harg2 : arg2.IsWhole) (arg3 : Memref sig .tc .smem S66 .i32) (harg3 : arg3.IsWhole) (arg4 : Memref sig .tc .smem S2 .f32) (harg4 : arg4.IsWhole) (arg5 : Memref sig .tc .vmem S1x1024x1024 .fp8e4m3) (harg5 : arg5.IsWhole) (arg6 : Memref sig .tc .vmem S1x1024x1024 .fp8e4m3) (harg6 : arg6.IsWhole) (arg7 : Memref sig .tc .vmem S1x1x1024 .f32) (harg7 : arg7.IsWhole) (arg8 : Memref sig .tc .vmem S1024x1024 .f32) (harg8 : arg8.IsWhole) (arg9 : Memref sig .tc .hbm S11008x11008 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) (k0_h3 : k0_cond3 i = 1#1) {α : Type} (k : PUnit → Prog (TpuEff nD τ sig (Elt F) Λ₀ .tc) α) :
    Prog (TpuEff nD τ sig (Elt F) Λ₀ .tc) α := do
  if k0_h4 : k0_cond4 i = 1#1 then do
    let v65 : Elt F .i32 ← smemLoad arg2 (Rect.unit (s := S66) (k0_off2 i) S1.size (k0_off2_inb i k0_h3 k0_h4)) numel1_S1 rfl
    have k0_hw2 : k0_chk2 i v65 := (← Prog.lift (TpuEff.assume (k0_chk2 i v65) (k0_chk2.dec i v65))).down
    let v67 : Elt F .i32 ← smemLoad arg3 (Rect.unit (s := S66) (k0_off2 i) S1.size (k0_off2_inb i k0_h3 k0_h4)) numel1_S1 rfl
    have k0_hw1 : k0_chk1 i v65 v67 := (← Prog.lift (TpuEff.assume (k0_chk1 i v65 v67) (k0_chk1.dec i v65 v67))).down
    if k0_h5 : k0_cond5 v67 = 1#1 then do
      let v83 : DmaSems sig S1 := arg13.slice (Rect.unit (s := S2) ![0] S1.size inb_S2_S1_0)
      let v84 : DmaSems sig S_ := v83.squeeze S_ squeezes_S1_S_
      let v85 : Memref sig .tc .hbm S1024x1024 .f32 := arg9.slice (Rect.unit (s := S11008x11008) (k0_off3 v65 v67) S1024x1024.size (k0_off3_inb i v65 v67 k0_hw1 k0_h3 k0_h4 k0_h5)) (fun _ => rfl)
      let v86 : Memref sig .tc .vmem S1024x1024 .f32 := arg11.slice (Rect.unit (s := S1024x1024) ![0, 0] S1024x1024.size inb_S1024x1024_S1024x1024_0_0) (fun _ => rfl)
      Prog.lift (.waitDma2 v84.sem v86 v85 (View.wordExact_bits rfl) (View.wordExact_bits rfl))
      if k0_h6 : k0_cond6 v65 v67 = 1#1 then do
        let v94 : DmaSems sig S1 := arg13.slice (Rect.unit (s := S2) ![1] S1.size inb_S2_S1_1)
        let v95 : DmaSems sig S_ := v94.squeeze S_ squeezes_S1_S_
        let v96 : Memref sig .tc .hbm S1024x1024 .f32 := arg9.slice (Rect.unit (s := S11008x11008) (k0_off4 v65 v67) S1024x1024.size (k0_off4_inb i v65 v67 k0_hw1 k0_h3 k0_h4 k0_h5 k0_h6)) (fun _ => rfl)
        let v97 : Memref sig .tc .vmem S1024x1024 .f32 := arg12.slice (Rect.unit (s := S1024x1024) ![0, 0] S1024x1024.size inb_S1024x1024_S1024x1024_0_0) (fun _ => rfl)
        Prog.lift (.waitDma2 v95.sem v97 v96 (View.wordExact_bits rfl) (View.wordExact_bits rfl))
        pure ⟨⟩
      else do
        pure ⟨⟩
      pure ⟨⟩
    else do
      pure ⟨⟩
    if k0_h7 : k0_cond7 v65 v67 = 1#1 then do
      let v83 : DmaSems sig S1 := arg13.slice (Rect.unit (s := S2) ![0] S1.size inb_S2_S1_0)
      let v84 : DmaSems sig S_ := v83.squeeze S_ squeezes_S1_S_
      let v85 : Memref sig .tc .hbm S1024x768 .f32 := arg9.slice (Rect.unit (s := S11008x11008) (k0_off5 v65 v67) S1024x768.size (k0_off5_inb i v65 v67 k0_hw1 k0_h3 k0_h4 k0_h7)) (fun _ => rfl)
      let v86 : Memref sig .tc .vmem S1024x768 .f32 := arg11.slice (Rect.unit (s := S1024x1024) ![0, 0] S1024x768.size inb_S1024x1024_S1024x768_0_0) (fun _ => rfl)
      Prog.lift (.waitDma2 v84.sem v86 v85 (View.wordExact_bits rfl) (View.wordExact_bits rfl))
      let v91 : DmaSems sig S1 := arg13.slice (Rect.unit (s := S2) ![1] S1.size inb_S2_S1_1)
      let v92 : DmaSems sig S_ := v91.squeeze S_ squeezes_S1_S_
      let v93 : Memref sig .tc .hbm S768x1024 .f32 := arg9.slice (Rect.unit (s := S11008x11008) (k0_off6 v65 v67) S768x1024.size (k0_off6_inb i v65 v67 k0_hw1 k0_h3 k0_h4 k0_h7)) (fun _ => rfl)
      let v94 : Memref sig .tc .vmem S768x1024 .f32 := arg12.slice (Rect.unit (s := S1024x1024) ![0, 0] S768x1024.size inb_S1024x1024_S768x1024_0_0) (fun _ => rfl)
      Prog.lift (.waitDma2 v92.sem v94 v93 (View.wordExact_bits rfl) (View.wordExact_bits rfl))
      pure ⟨⟩
    else do
      pure ⟨⟩
    if k0_h8 : k0_cond8 v65 = 1#1 then do
      let v83 : DmaSems sig S1 := arg13.slice (Rect.unit (s := S2) ![0] S1.size inb_S2_S1_0)
      let v84 : DmaSems sig S_ := v83.squeeze S_ squeezes_S1_S_
      let v85 : Memref sig .tc .hbm S768x768 .f32 := arg9.slice (Rect.unit (s := S11008x11008) (k0_off7 v65 v67) S768x768.size (k0_off7_inb i v65 v67 k0_hw1 k0_h3 k0_h4 k0_h8)) (fun _ => rfl)
      let v86 : Memref sig .tc .vmem S768x768 .f32 := arg11.slice (Rect.unit (s := S1024x1024) ![0, 0] S768x768.size inb_S1024x1024_S768x768_0_0) (fun _ => rfl)
      Prog.lift (.waitDma2 v84.sem v86 v85 (View.wordExact_bits rfl) (View.wordExact_bits rfl))
      pure ⟨⟩
    else do
      pure ⟨⟩
    pure ⟨⟩
  else do
    pure ⟨⟩
  k ⟨⟩

/-- The final block of the pair, and off the diagonal its transpose, put in the two staging buffers. -/
noncomputable def compSeg (i : grid0.Coords) (arg2 : Memref sig .tc .smem S66 .i32) (harg2 : arg2.IsWhole) (arg3 : Memref sig .tc .smem S66 .i32) (harg3 : arg3.IsWhole) (arg4 : Memref sig .tc .smem S2 .f32) (harg4 : arg4.IsWhole) (arg5 : Memref sig .tc .vmem S1x1024x1024 .fp8e4m3) (harg5 : arg5.IsWhole) (arg6 : Memref sig .tc .vmem S1x1024x1024 .fp8e4m3) (harg6 : arg6.IsWhole) (arg7 : Memref sig .tc .vmem S1x1x1024 .f32) (harg7 : arg7.IsWhole) (arg8 : Memref sig .tc .vmem S1024x1024 .f32) (harg8 : arg8.IsWhole) (arg9 : Memref sig .tc .hbm S11008x11008 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) (v1 : Elt F .i32) (v3 : Elt F .i32) {α : Type} (k : PUnit → Prog (TpuEff nD τ sig (Elt F) Λ₀ .tc) α) :
    Prog (TpuEff nD τ sig (Elt F) Λ₀ .tc) α := do
  let v30 : Elt F .f32 ← smemLoad arg4 (Rect.unit (s := S2) ![0] S1.size inb_S2_S1_0) numel1_S1 rfl
  let v31 : Elt F .f32 ← smemLoad arg4 (Rect.unit (s := S2) ![1] S1.size inb_S2_S1_1) numel1_S1 rfl
  let v32 : Vec F S1024x1024 .f32 ← Prog.lift (.load arg8 (Rect.unit (s := S1024x1024) ![0, 0] S1024x1024.size inb_S1024x1024_S1024x1024_0_0).toLoadRect (View.loadsAt_vmem h_S1024x1024))
  let v35 : Vec F S1024x1024 .f32 ← Prog.lift (.load arg10 (Rect.unit (s := S1024x1024) ![0, 0] S1024x1024.size inb_S1024x1024_S1024x1024_0_0).toLoadRect (View.loadsAt_vmem h_S1024x1024))
  let v39 : BitVec 1 := Scalar.cmpi .ne v1 v3
  let v40 : BitVec 32 := Scalar.extui v39
  let v41 : BitVec 1 := Scalar.cmpi .ne v40 0#32
  if v41 = 1#1 then do
    let v63 : Vec F S1024x1024 .f32 ← Prog.lift (.load arg11 (Rect.unit (s := S1024x1024) ![0, 0] S1024x1024.size inb_S1024x1024_S1024x1024_0_0).toLoadRect (View.loadsAt_vmem h_S1024x1024))
    Prog.lift (.store arg11 (Rect.unit (s := S1024x1024) ![0, 0] S1024x1024.size inb_S1024x1024_S1024x1024_0_0) (k0_pay5 v30 v31 v32 v35) Finset.univ (View.stores_vmem_bits_univ h_S1024x1024 rfl) (.inl rfl))
    let v67 : Vec F S1024x1024 .f32 ← Prog.lift (.load arg12 (Rect.unit (s := S1024x1024) ![0, 0] S1024x1024.size inb_S1024x1024_S1024x1024_0_0).toLoadRect (View.loadsAt_vmem h_S1024x1024))
    Prog.lift (.store arg12 (Rect.unit (s := S1024x1024) ![0, 0] S1024x1024.size inb_S1024x1024_S1024x1024_0_0) (k0_pay6 v30 v31 v32 v35) Finset.univ (View.stores_vmem_bits_univ h_S1024x1024 rfl) (.inl rfl))
    pure ⟨⟩
  else do
    pure ⟨⟩
  let v42 : BitVec 1 := Scalar.cmpi .eq v1 v3
  let v43 : BitVec 32 := Scalar.extui v42
  let v44 : BitVec 1 := Scalar.cmpi .ne v43 0#32
  if v44 = 1#1 then do
    let v68 : Vec F S1024x1024 .f32 ← Prog.lift (.load arg11 (Rect.unit (s := S1024x1024) ![0, 0] S1024x1024.size inb_S1024x1024_S1024x1024_0_0).toLoadRect (View.loadsAt_vmem h_S1024x1024))
    Prog.lift (.store arg11 (Rect.unit (s := S1024x1024) ![0, 0] S1024x1024.size inb_S1024x1024_S1024x1024_0_0) (k0_pay7 v30 v31 v32 v35) Finset.univ (View.stores_vmem_bits_univ h_S1024x1024 rfl) (.inl rfl))
    pure ⟨⟩
  else do
    pure ⟨⟩
  k ⟨⟩

/-- The pair's transfers to the result, issued. -/
noncomputable def issueSeg (i : grid0.Coords) (arg2 : Memref sig .tc .smem S66 .i32) (harg2 : arg2.IsWhole) (arg3 : Memref sig .tc .smem S66 .i32) (harg3 : arg3.IsWhole) (arg4 : Memref sig .tc .smem S2 .f32) (harg4 : arg4.IsWhole) (arg5 : Memref sig .tc .vmem S1x1024x1024 .fp8e4m3) (harg5 : arg5.IsWhole) (arg6 : Memref sig .tc .vmem S1x1024x1024 .fp8e4m3) (harg6 : arg6.IsWhole) (arg7 : Memref sig .tc .vmem S1x1x1024 .f32) (harg7 : arg7.IsWhole) (arg8 : Memref sig .tc .vmem S1024x1024 .f32) (harg8 : arg8.IsWhole) (arg9 : Memref sig .tc .hbm S11008x11008 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) (k0_h3 : k0_cond3 i = 1#1) {α : Type} (k : PUnit → Prog (TpuEff nD τ sig (Elt F) Λ₀ .tc) α) :
    Prog (TpuEff nD τ sig (Elt F) Λ₀ .tc) α := do
  let v46 : Elt F .i32 ← smemLoad arg2 (Rect.unit (s := S66) (k0_off8 i) S1.size (k0_off8_inb i k0_h3)) numel1_S1 rfl
  have k0_hw4 : k0_chk4 i v46 := (← Prog.lift (TpuEff.assume (k0_chk4 i v46) (k0_chk4.dec i v46))).down
  let v48 : Elt F .i32 ← smemLoad arg3 (Rect.unit (s := S66) (k0_off8 i) S1.size (k0_off8_inb i k0_h3)) numel1_S1 rfl
  have k0_hw3 : k0_chk3 i v46 v48 := (← Prog.lift (TpuEff.assume (k0_chk3 i v46 v48) (k0_chk3.dec i v46 v48))).down
  if k0_h11 : k0_cond11 v48 = 1#1 then do
    let v67 : DmaSems sig S1 := arg13.slice (Rect.unit (s := S2) ![0] S1.size inb_S2_S1_0)
    let v68 : DmaSems sig S_ := v67.squeeze S_ squeezes_S1_S_
    let v69 : Memref sig .tc .hbm S1024x1024 .f32 := arg9.slice (Rect.unit (s := S11008x11008) (k0_off9 v46 v48) S1024x1024.size (k0_off9_inb i v46 v48 k0_hw3 k0_h3 k0_h11)) (fun _ => rfl)
    let v70 : Memref sig .tc .vmem S1024x1024 .f32 := arg11.slice (Rect.unit (s := S1024x1024) ![0, 0] S1024x1024.size inb_S1024x1024_S1024x1024_0_0) (fun _ => rfl)
    Prog.lift (.enqueueDma v70 (.here v69) (.dma v68.sem) (View.wordExact_bits rfl) (View.wordExact_bits rfl) ⟨Or.inl rfl, trivial⟩)
    if k0_h12 : k0_cond12 v46 v48 = 1#1 then do
      let v78 : DmaSems sig S1 := arg13.slice (Rect.unit (s := S2) ![1] S1.size inb_S2_S1_1)
      let v79 : DmaSems sig S_ := v78.squeeze S_ squeezes_S1_S_
      let v80 : Memref sig .tc .hbm S1024x1024 .f32 := arg9.slice (Rect.unit (s := S11008x11008) (k0_off10 v46 v48) S1024x1024.size (k0_off10_inb i v46 v48 k0_hw3 k0_h3 k0_h11 k0_h12)) (fun _ => rfl)
      let v81 : Memref sig .tc .vmem S1024x1024 .f32 := arg12.slice (Rect.unit (s := S1024x1024) ![0, 0] S1024x1024.size inb_S1024x1024_S1024x1024_0_0) (fun _ => rfl)
      Prog.lift (.enqueueDma v81 (.here v80) (.dma v79.sem) (View.wordExact_bits rfl) (View.wordExact_bits rfl) ⟨Or.inl rfl, trivial⟩)
      pure ⟨⟩
    else do
      pure ⟨⟩
    pure ⟨⟩
  else do
    pure ⟨⟩
  if k0_h13 : k0_cond13 v46 v48 = 1#1 then do
    let v67 : DmaSems sig S1 := arg13.slice (Rect.unit (s := S2) ![0] S1.size inb_S2_S1_0)
    let v68 : DmaSems sig S_ := v67.squeeze S_ squeezes_S1_S_
    let v69 : Memref sig .tc .hbm S1024x768 .f32 := arg9.slice (Rect.unit (s := S11008x11008) (k0_off11 v46 v48) S1024x768.size (k0_off11_inb i v46 v48 k0_hw3 k0_h3 k0_h13)) (fun _ => rfl)
    let v70 : Memref sig .tc .vmem S1024x768 .f32 := arg11.slice (Rect.unit (s := S1024x1024) ![0, 0] S1024x768.size inb_S1024x1024_S1024x768_0_0) (fun _ => rfl)
    Prog.lift (.enqueueDma v70 (.here v69) (.dma v68.sem) (View.wordExact_bits rfl) (View.wordExact_bits rfl) ⟨Or.inl rfl, trivial⟩)
    let v75 : DmaSems sig S1 := arg13.slice (Rect.unit (s := S2) ![1] S1.size inb_S2_S1_1)
    let v76 : DmaSems sig S_ := v75.squeeze S_ squeezes_S1_S_
    let v77 : Memref sig .tc .hbm S768x1024 .f32 := arg9.slice (Rect.unit (s := S11008x11008) (k0_off12 v46 v48) S768x1024.size (k0_off12_inb i v46 v48 k0_hw3 k0_h3 k0_h13)) (fun _ => rfl)
    let v78 : Memref sig .tc .vmem S768x1024 .f32 := arg12.slice (Rect.unit (s := S1024x1024) ![0, 0] S768x1024.size inb_S1024x1024_S768x1024_0_0) (fun _ => rfl)
    Prog.lift (.enqueueDma v78 (.here v77) (.dma v76.sem) (View.wordExact_bits rfl) (View.wordExact_bits rfl) ⟨Or.inl rfl, trivial⟩)
    pure ⟨⟩
  else do
    pure ⟨⟩
  if k0_h14 : k0_cond14 v46 = 1#1 then do
    let v67 : DmaSems sig S1 := arg13.slice (Rect.unit (s := S2) ![0] S1.size inb_S2_S1_0)
    let v68 : DmaSems sig S_ := v67.squeeze S_ squeezes_S1_S_
    let v69 : Memref sig .tc .hbm S768x768 .f32 := arg9.slice (Rect.unit (s := S11008x11008) (k0_off13 v46 v48) S768x768.size (k0_off13_inb i v46 v48 k0_hw3 k0_h3 k0_h14)) (fun _ => rfl)
    let v70 : Memref sig .tc .vmem S768x768 .f32 := arg11.slice (Rect.unit (s := S1024x1024) ![0, 0] S768x768.size inb_S1024x1024_S768x768_0_0) (fun _ => rfl)
    Prog.lift (.enqueueDma v70 (.here v69) (.dma v68.sem) (View.wordExact_bits rfl) (View.wordExact_bits rfl) ⟨Or.inl rfl, trivial⟩)
    pure ⟨⟩
  else do
    pure ⟨⟩
  k ⟨⟩

/-- The last pair's own waits. -/
noncomputable def finSeg (i : grid0.Coords) (arg2 : Memref sig .tc .smem S66 .i32) (harg2 : arg2.IsWhole) (arg3 : Memref sig .tc .smem S66 .i32) (harg3 : arg3.IsWhole) (arg4 : Memref sig .tc .smem S2 .f32) (harg4 : arg4.IsWhole) (arg5 : Memref sig .tc .vmem S1x1024x1024 .fp8e4m3) (harg5 : arg5.IsWhole) (arg6 : Memref sig .tc .vmem S1x1024x1024 .fp8e4m3) (harg6 : arg6.IsWhole) (arg7 : Memref sig .tc .vmem S1x1x1024 .f32) (harg7 : arg7.IsWhole) (arg8 : Memref sig .tc .vmem S1024x1024 .f32) (harg8 : arg8.IsWhole) (arg9 : Memref sig .tc .hbm S11008x11008 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) (k0_h3 : k0_cond3 i = 1#1) {α : Type} (k : PUnit → Prog (TpuEff nD τ sig (Elt F) Λ₀ .tc) α) :
    Prog (TpuEff nD τ sig (Elt F) Λ₀ .tc) α := do
  if k0_h15 : k0_cond15 i = 1#1 then do
    let v64 : Elt F .i32 ← smemLoad arg2 (Rect.unit (s := S66) (k0_off14 i) S1.size (k0_off14_inb i k0_h3 k0_h15)) numel1_S1 rfl
    have k0_hw6 : k0_chk6 i v64 := (← Prog.lift (TpuEff.assume (k0_chk6 i v64) (k0_chk6.dec i v64))).down
    let v66 : Elt F .i32 ← smemLoad arg3 (Rect.unit (s := S66) (k0_off14 i) S1.size (k0_off14_inb i k0_h3 k0_h15)) numel1_S1 rfl
    have k0_hw5 : k0_chk5 i v64 v66 := (← Prog.lift (TpuEff.assume (k0_chk5 i v64 v66) (k0_chk5.dec i v64 v66))).down
    if k0_h16 : k0_cond16 v66 = 1#1 then do
      let v82 : DmaSems sig S1 := arg13.slice (Rect.unit (s := S2) ![0] S1.size inb_S2_S1_0)
      let v83 : DmaSems sig S_ := v82.squeeze S_ squeezes_S1_S_
      let v84 : Memref sig .tc .hbm S1024x1024 .f32 := arg9.slice (Rect.unit (s := S11008x11008) (k0_off15 v64 v66) S1024x1024.size (k0_off15_inb i v64 v66 k0_hw5 k0_h3 k0_h15 k0_h16)) (fun _ => rfl)
      let v85 : Memref sig .tc .vmem S1024x1024 .f32 := arg11.slice (Rect.unit (s := S1024x1024) ![0, 0] S1024x1024.size inb_S1024x1024_S1024x1024_0_0) (fun _ => rfl)
      Prog.lift (.waitDma2 v83.sem v85 v84 (View.wordExact_bits rfl) (View.wordExact_bits rfl))
      if k0_h17 : k0_cond17 v64 v66 = 1#1 then do
        let v93 : DmaSems sig S1 := arg13.slice (Rect.unit (s := S2) ![1] S1.size inb_S2_S1_1)
        let v94 : DmaSems sig S_ := v93.squeeze S_ squeezes_S1_S_
        let v95 : Memref sig .tc .hbm S1024x1024 .f32 := arg9.slice (Rect.unit (s := S11008x11008) (k0_off16 v64 v66) S1024x1024.size (k0_off16_inb i v64 v66 k0_hw5 k0_h3 k0_h15 k0_h16 k0_h17)) (fun _ => rfl)
        let v96 : Memref sig .tc .vmem S1024x1024 .f32 := arg12.slice (Rect.unit (s := S1024x1024) ![0, 0] S1024x1024.size inb_S1024x1024_S1024x1024_0_0) (fun _ => rfl)
        Prog.lift (.waitDma2 v94.sem v96 v95 (View.wordExact_bits rfl) (View.wordExact_bits rfl))
        pure ⟨⟩
      else do
        pure ⟨⟩
      pure ⟨⟩
    else do
      pure ⟨⟩
    if k0_h18 : k0_cond18 v64 v66 = 1#1 then do
      let v82 : DmaSems sig S1 := arg13.slice (Rect.unit (s := S2) ![0] S1.size inb_S2_S1_0)
      let v83 : DmaSems sig S_ := v82.squeeze S_ squeezes_S1_S_
      let v84 : Memref sig .tc .hbm S1024x768 .f32 := arg9.slice (Rect.unit (s := S11008x11008) (k0_off17 v64 v66) S1024x768.size (k0_off17_inb i v64 v66 k0_hw5 k0_h3 k0_h15 k0_h18)) (fun _ => rfl)
      let v85 : Memref sig .tc .vmem S1024x768 .f32 := arg11.slice (Rect.unit (s := S1024x1024) ![0, 0] S1024x768.size inb_S1024x1024_S1024x768_0_0) (fun _ => rfl)
      Prog.lift (.waitDma2 v83.sem v85 v84 (View.wordExact_bits rfl) (View.wordExact_bits rfl))
      let v90 : DmaSems sig S1 := arg13.slice (Rect.unit (s := S2) ![1] S1.size inb_S2_S1_1)
      let v91 : DmaSems sig S_ := v90.squeeze S_ squeezes_S1_S_
      let v92 : Memref sig .tc .hbm S768x1024 .f32 := arg9.slice (Rect.unit (s := S11008x11008) (k0_off18 v64 v66) S768x1024.size (k0_off18_inb i v64 v66 k0_hw5 k0_h3 k0_h15 k0_h18)) (fun _ => rfl)
      let v93 : Memref sig .tc .vmem S768x1024 .f32 := arg12.slice (Rect.unit (s := S1024x1024) ![0, 0] S768x1024.size inb_S1024x1024_S768x1024_0_0) (fun _ => rfl)
      Prog.lift (.waitDma2 v91.sem v93 v92 (View.wordExact_bits rfl) (View.wordExact_bits rfl))
      pure ⟨⟩
    else do
      pure ⟨⟩
    if k0_h19 : k0_cond19 v64 = 1#1 then do
      let v82 : DmaSems sig S1 := arg13.slice (Rect.unit (s := S2) ![0] S1.size inb_S2_S1_0)
      let v83 : DmaSems sig S_ := v82.squeeze S_ squeezes_S1_S_
      let v84 : Memref sig .tc .hbm S768x768 .f32 := arg9.slice (Rect.unit (s := S11008x11008) (k0_off19 v64 v66) S768x768.size (k0_off19_inb i v64 v66 k0_hw5 k0_h3 k0_h15 k0_h19)) (fun _ => rfl)
      let v85 : Memref sig .tc .vmem S768x768 .f32 := arg11.slice (Rect.unit (s := S1024x1024) ![0, 0] S768x768.size inb_S1024x1024_S768x768_0_0) (fun _ => rfl)
      Prog.lift (.waitDma2 v83.sem v85 v84 (View.wordExact_bits rfl) (View.wordExact_bits rfl))
      pure ⟨⟩
    else do
      pure ⟨⟩
    pure ⟨⟩
  else do
    pure ⟨⟩
  k ⟨⟩

theorem part1_eq_segs (i : grid0.Coords) (arg2 : Memref sig .tc .smem S66 .i32) (harg2 : arg2.IsWhole) (arg3 : Memref sig .tc .smem S66 .i32) (harg3 : arg3.IsWhole) (arg4 : Memref sig .tc .smem S2 .f32) (harg4 : arg4.IsWhole) (arg5 : Memref sig .tc .vmem S1x1024x1024 .fp8e4m3) (harg5 : arg5.IsWhole) (arg6 : Memref sig .tc .vmem S1x1024x1024 .fp8e4m3) (harg6 : arg6.IsWhole) (arg7 : Memref sig .tc .vmem S1x1x1024 .f32) (harg7 : arg7.IsWhole) (arg8 : Memref sig .tc .vmem S1024x1024 .f32) (harg8 : arg8.IsWhole) (arg9 : Memref sig .tc .hbm S11008x11008 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) (arg0 : BitVec 32) (v1 : Elt F .i32) (v3 : Elt F .i32) (k0_h3 : k0_cond3 i = 1#1) :
    k0_part1 (F := F) i arg2 harg2 arg3 harg3 arg4 harg4 arg5 harg5 arg6 harg6 arg7 harg7 arg8 harg8 arg9 harg9 arg10 harg10 arg11 harg11 arg12 harg12 arg13 arg0 v1 v3 k0_h3 = waitSeg i arg2 harg2 arg3 harg3 arg4 harg4 arg5 harg5 arg6 harg6 arg7 harg7 arg8 harg8 arg9 harg9 arg10 harg10 arg11 harg11 arg12 harg12 arg13 k0_h3 fun _ => compSeg i arg2 harg2 arg3 harg3 arg4 harg4 arg5 harg5 arg6 harg6 arg7 harg7 arg8 harg8 arg9 harg9 arg10 harg10 arg11 harg11 arg12 harg12 arg13 v1 v3 fun _ => issueSeg i arg2 harg2 arg3 harg3 arg4 harg4 arg5 harg5 arg6 harg6 arg7 harg7 arg8 harg8 arg9 harg9 arg10 harg10 arg11 harg11 arg12 harg12 arg13 k0_h3 fun _ => .ret (Scalar.cmpi .eq arg0 65#32) := by
  rw [k0_part1_eq_skeleton]; rfl

theorem gram_eq_segs (i : grid0.Coords) (arg2 : Memref sig .tc .smem S66 .i32) (harg2 : arg2.IsWhole) (arg3 : Memref sig .tc .smem S66 .i32) (harg3 : arg3.IsWhole) (arg4 : Memref sig .tc .smem S2 .f32) (harg4 : arg4.IsWhole) (arg5 : Memref sig .tc .vmem S1x1024x1024 .fp8e4m3) (harg5 : arg5.IsWhole) (arg6 : Memref sig .tc .vmem S1x1024x1024 .fp8e4m3) (harg6 : arg6.IsWhole) (arg7 : Memref sig .tc .vmem S1x1x1024 .f32) (harg7 : arg7.IsWhole) (arg8 : Memref sig .tc .vmem S1024x1024 .f32) (harg8 : arg8.IsWhole) (arg9 : Memref sig .tc .hbm S11008x11008 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) :
    cc0_gram (F := F) i arg2 harg2 arg3 harg3 arg4 harg4 arg5 harg5 arg6 harg6 arg7 harg7 arg8 harg8 arg9 harg9 arg10 harg10 arg11 harg11 arg12 harg12 arg13 = preSeg i arg2 harg2 arg3 harg3 arg4 harg4 arg5 harg5 arg6 harg6 arg7 harg7 arg8 harg8 arg9 harg9 arg10 harg10 arg11 harg11 arg12 harg12 arg13 fun v1 v3 => if h3 : k0_cond3 i = 1#1 then (k0_part1 i arg2 harg2 arg3 harg3 arg4 harg4 arg5 harg5 arg6 harg6 arg7 harg7 arg8 harg8 arg9 harg9 arg10 harg10 arg11 harg11 arg12 harg12 arg13 (BitVec.ofNat 32 (i 0).val) v1 v3 h3) >>= fun _ => finSeg i arg2 harg2 arg3 harg3 arg4 harg4 arg5 harg5 arg6 harg6 arg7 harg7 arg8 harg8 arg9 harg9 arg10 harg10 arg11 harg11 arg12 harg12 arg13 h3 fun _ => .ret ⟨⟩ else .ret ⟨⟩ := by
  rw [cc0_gram_eq_skeleton]; rfl

end Cert.KernelIdeal.Hand
end
-- ==== Proof.Accum.lean ====
module

public import proofs.«01_k».proof.Proof.Tables
public import proofs.«01_k».proof.Proof.Segs
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The accumulation step run: at the first step the accumulator becomes the step's product, at a later one the
    product is added to what it held. -/

variable (c : Dev nD) (i : grid0.Coords) (p : Fin 66) (hp : (i 0).val = p.val)
    (arg4 : Memref sig .tc .smem S2 .f32) (harg4 : arg4.IsWhole) (arg5 : Memref sig .tc .vmem S1x1024x1024 .fp8e4m3) (harg5 : arg5.IsWhole)
    (arg6 : Memref sig .tc .vmem S1x1024x1024 .fp8e4m3) (harg6 : arg6.IsWhole) (arg7 : Memref sig .tc .vmem S1x1x1024 .f32) (harg7 : arg7.IsWhole)
    (arg8 : Memref sig .tc .vmem S1024x1024 .f32) (harg8 : arg8.IsWhole)
    (q0 q1 : PosShare TreeShare)
    {α : Type}

include hp in
theorem tab_reads :
    (∀ h x, (Memref.whole main_c).view.readAt (Elt F) (Rect.unit (s := S66) (k0_off1 i) S1.size h).toLoadRect tab0 x = lit0 p)
    ∧ (∀ h x, (Memref.whole main_c_0).view.readAt (Elt F) (Rect.unit (s := S66) (k0_off1 i) S1.size h).toLoadRect tab1 x = lit1 p) :=
  ⟨(readTab lit0 p _ ((off1_val i).trans hp)).1, (readTab lit1 p _ ((off1_val i).trans hp)).2⟩

include hp in
/-- The first step: the accumulator ends at the step's product. -/
theorem preSeg_first (hk : (i 1).val = 0) (x5 x6 : Vec F S1x1024x1024 .fp8e4m3) (x7 : Vec F S1x1x1024 .f32)
    (k : Elt F .i32 → Elt F .i32 → Prog (TpuEff nD τ sig (Elt F) Λ₀ .tc) α) (Q : α → sProp 𝕄) :
    iprop(((Memref.whole main_c).view.loc (c : Thread nD τ) ↦{q0} tab0) ∗ ((Memref.whole main_c_0).view.loc (c : Thread nD τ) ↦{q1} tab1)
        ∗ owns (c : Thread nD τ) arg5 fullShare x5 ∗ owns (c : Thread nD τ) arg6 fullShare x6 ∗ owns (c : Thread nD τ) arg7 fullShare x7
        ∗ (∃ a, owns (c : Thread nD τ) (Memref.whole cc0_scratch0) fullShare a)
        ∗ (iprop(((Memref.whole main_c).view.loc (c : Thread nD τ) ↦{q0} tab0) ∗ ((Memref.whole main_c_0).view.loc (c : Thread nD τ) ↦{q1} tab1)
            ∗ owns (c : Thread nD τ) arg5 fullShare x5 ∗ owns (c : Thread nD τ) arg6 fullShare x6 ∗ owns (c : Thread nD τ) arg7 fullShare x7
            ∗ owns (c : Thread nD τ) (Memref.whole cc0_scratch0) fullShare (k0_pay2 x7 x5 x6))
          -∗ wp frame (wpE (defs₀ (F := F)) Variants.none c none) Set.univ (k (lit0 p) (lit1 p)) Q))
      ⊢ wp frame (wpE (defs₀ (F := F)) Variants.none c none) Set.univ (preSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 k) Q := by
  obtain ⟨hw0, hw1⟩ := tab_reads (F := F) i p hp
  have hc1 := (cond1_iff i).mpr hk
  have hc2 : ¬ _ := fun h => absurd ((cond2_iff i).mp h) (by omega)
  have hkk : ∀ w0 w1, w0 = lit0 p → w1 = lit1 p → (wp frame (wpE (defs₀ (F := F)) Variants.none c none) Set.univ (k (lit0 p) (lit1 p)) Q ⊢ wp frame (wpE (defs₀ (F := F)) Variants.none c none) Set.univ (k w0 w1) Q) := by rintro _ _ rfl rfl; exact .rfl
  unfold preSeg
  unfold owns
  iintro ⟨H0, H1, ⟨%f5, %hf5, H5⟩, ⟨%f6, %hf6, H6⟩, ⟨%f7, %hf7, H7⟩, ⟨%a, %f10, %hf10, H10⟩, Hk⟩
  subst hf5 hf6 hf7
  sl_exec (disch := first | exact hc1 | exact hc2)
  iapply (hkk _ _ (hw0 _ _) (hw1 _ _))
  iapply Hk
  isplitl [H0]; · iexact H0
  isplitl [H1]; · iexact H1
  isplitl [H5]
  · iexists _; isplitr; · ipureintro; rfl
    iexact H5
  isplitl [H6]
  · iexists _; isplitr; · ipureintro; rfl
    iexact H6
  isplitl [H7]
  · iexists _; isplitr; · ipureintro; rfl
    iexact H7
  iexists _
  isplitr
  swap
  · iexact H10
  · ipureintro
    refine (View.read_writes_full _ _ _ _ _).trans ?_
    rw [View.readAt_full, View.readAt_full, View.readAt_full]

include hp in
/-- A later step: the step's product added to the accumulator. -/
theorem preSeg_later (hk : 0 < (i 1).val) (x5 x6 : Vec F S1x1024x1024 .fp8e4m3) (x7 : Vec F S1x1x1024 .f32) (a : Vec F S1024x1024 .f32)
    (k : Elt F .i32 → Elt F .i32 → Prog (TpuEff nD τ sig (Elt F) Λ₀ .tc) α) (Q : α → sProp 𝕄) :
    iprop(((Memref.whole main_c).view.loc (c : Thread nD τ) ↦{q0} tab0) ∗ ((Memref.whole main_c_0).view.loc (c : Thread nD τ) ↦{q1} tab1)
        ∗ owns (c : Thread nD τ) arg5 fullShare x5 ∗ owns (c : Thread nD τ) arg6 fullShare x6 ∗ owns (c : Thread nD τ) arg7 fullShare x7
        ∗ owns (c : Thread nD τ) (Memref.whole cc0_scratch0) fullShare a
        ∗ (iprop(((Memref.whole main_c).view.loc (c : Thread nD τ) ↦{q0} tab0) ∗ ((Memref.whole main_c_0).view.loc (c : Thread nD τ) ↦{q1} tab1)
            ∗ owns (c : Thread nD τ) arg5 fullShare x5 ∗ owns (c : Thread nD τ) arg6 fullShare x6 ∗ owns (c : Thread nD τ) arg7 fullShare x7
            ∗ owns (c : Thread nD τ) (Memref.whole cc0_scratch0) fullShare (k0_pay3 x7 x5 x6 a))
          -∗ wp frame (wpE (defs₀ (F := F)) Variants.none c none) Set.univ (k (lit0 p) (lit1 p)) Q))
      ⊢ wp frame (wpE (defs₀ (F := F)) Variants.none c none) Set.univ (preSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 k) Q := by
  obtain ⟨hw0, hw1⟩ := tab_reads (F := F) i p hp
  have hc1 : ¬ _ := fun h => absurd ((cond1_iff i).mp h) (by omega)
  have hc2 := (cond2_iff i).mpr hk
  have hkk : ∀ w0 w1, w0 = lit0 p → w1 = lit1 p → (wp frame (wpE (defs₀ (F := F)) Variants.none c none) Set.univ (k (lit0 p) (lit1 p)) Q ⊢ wp frame (wpE (defs₀ (F := F)) Variants.none c none) Set.univ (k w0 w1) Q) := by rintro _ _ rfl rfl; exact .rfl
  unfold preSeg
  unfold owns
  iintro ⟨H0, H1, ⟨%f5, %hf5, H5⟩, ⟨%f6, %hf6, H6⟩, ⟨%f7, %hf7, H7⟩, ⟨%f10, %hf10, H10⟩, Hk⟩
  subst hf5 hf6 hf7 hf10
  have e10 : (Memref.whole cc0_scratch0).view.readAt (Elt F) (Rect.unit (s := S1024x1024) ![0, 0] S1024x1024.size inb_S1024x1024_S1024x1024_0_0).toLoadRect f10 = f10 := View.readAt_full (Memref.whole cc0_scratch0).view f10 inb_S1024x1024_S1024x1024_0_0
  sl_exec (disch := first | exact hc1 | exact hc2)
  iapply (hkk _ _ (hw0 _ _) (hw1 _ _))
  iapply Hk
  isplitl [H0]; · iexact H0
  isplitl [H1]; · iexact H1
  isplitl [H5]
  · iexists _; isplitr; · ipureintro; rfl
    iexact H5
  isplitl [H6]
  · iexists _; isplitr; · ipureintro; rfl
    iexact H6
  isplitl [H7]
  · iexists _; isplitr; · ipureintro; rfl
    iexact H7
  iexists _
  isplitr
  swap
  · iexact H10
  · ipureintro
    refine (View.read_writes_full _ _ _ _ _).trans ?_
    rw [e10, View.readAt_full, View.readAt_full, View.readAt_full]
    rfl

end Cert.KernelIdeal.Hand
end
-- ==== Proof.Final.lean ====
module

public import proofs.«01_k».proof.Proof.Tables
public import proofs.«01_k».proof.Proof.Segs
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The final block of a pair: what the two staging buffers hold after it. -/

/-- The two coefficients' positions in the coefficient buffer. -/
abbrev at0 : S2.Idx := fun a => ⟨0, by revert a; decide⟩
abbrev at1 : S2.Idx := fun a => ⟨1, by revert a; decide⟩

theorem read_at0 (arg4 : Memref sig .tc .smem S2 .f32) (f : arg4.view.ty.Contents (Elt F)) (h : ∀ a, (![0] : Fin 1 → ℕ) a + S1.size a ≤ S2.size a) (x : S1.Idx) :
    arg4.view.readAt (Elt F) (Rect.unit (s := S2) ![0] S1.size h).toLoadRect f x = arg4.view.read (Elt F) f at0 := by
  refine congrArg (arg4.view.read (Elt F) f) (funext fun a => Fin.ext ?_)
  have h0 : a = 0 := Subsingleton.elim _ _
  subst h0
  have hx : (x 0).val = 0 := by have := (x 0).isLt; change (x 0).val < 1 at this; omega
  change 0 + 1 * (x 0).val = 0; omega

theorem read_at1 (arg4 : Memref sig .tc .smem S2 .f32) (f : arg4.view.ty.Contents (Elt F)) (h : ∀ a, (![1] : Fin 1 → ℕ) a + S1.size a ≤ S2.size a) (x : S1.Idx) :
    arg4.view.readAt (Elt F) (Rect.unit (s := S2) ![1] S1.size h).toLoadRect f x = arg4.view.read (Elt F) f at1 := by
  refine congrArg (arg4.view.read (Elt F) f) (funext fun a => Fin.ext ?_)
  have h0 : a = 0 := Subsingleton.elim _ _
  subst h0
  have hx : (x 0).val = 0 := by have := (x 0).isLt; change (x 0).val < 1 at this; omega
  change 1 + 1 * (x 0).val = 1; omega

variable (c : Dev nD) (i : grid0.Coords) (p : Fin 66)
    (arg4 : Memref sig .tc .smem S2 .f32) (harg4 : arg4.IsWhole) (arg5 : Memref sig .tc .vmem S1x1024x1024 .fp8e4m3) (harg5 : arg5.IsWhole)
    (arg6 : Memref sig .tc .vmem S1x1024x1024 .fp8e4m3) (harg6 : arg6.IsWhole) (arg7 : Memref sig .tc .vmem S1x1x1024 .f32) (harg7 : arg7.IsWhole)
    (arg8 : Memref sig .tc .vmem S1024x1024 .f32) (harg8 : arg8.IsWhole)
    {α : Type}

/-- Off the diagonal: the block in the first staging buffer, its transpose in the second. -/
theorem compSeg_off (hne : bi p ≠ bj p) (x4 : Vec F S2 .f32) (x8 a : Vec F S1024x1024 .f32)
    (k : PUnit → Prog (TpuEff nD τ sig (Elt F) Λ₀ .tc) α) (Q : α → sProp 𝕄) :
    iprop(owns (c : Thread nD τ) arg4 fullShare x4 ∗ owns (c : Thread nD τ) arg8 fullShare x8
        ∗ owns (c : Thread nD τ) (Memref.whole cc0_scratch0) fullShare a
        ∗ (∃ f, owns (c : Thread nD τ) (Memref.whole cc0_scratch1) fullShare f)
        ∗ (∃ f, owns (c : Thread nD τ) (Memref.whole cc0_scratch2) fullShare f)
        ∗ (iprop(owns (c : Thread nD τ) arg4 fullShare x4 ∗ owns (c : Thread nD τ) arg8 fullShare x8
            ∗ owns (c : Thread nD τ) (Memref.whole cc0_scratch0) fullShare a
            ∗ owns (c : Thread nD τ) (Memref.whole cc0_scratch1) fullShare (k0_pay5 (x4 at0) (x4 at1) x8 a)
            ∗ owns (c : Thread nD τ) (Memref.whole cc0_scratch2) fullShare (k0_pay6 (x4 at0) (x4 at1) x8 a))
          -∗ wp frame (wpE (defs₀ (F := F)) Variants.none c none) Set.univ (k ⟨⟩) Q))
      ⊢ wp frame (wpE (defs₀ (F := F)) Variants.none c none) Set.univ (compSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 (lit0 p) (lit1 p) k) Q := by
  have hc1 := (branch_ne p).mpr hne
  have hc2 : ¬ _ := fun h => hne ((branch_eq p).mp h)
  unfold compSeg
  unfold owns
  iintro ⟨⟨%f4, %hf4, H4⟩, ⟨%f8, %hf8, H8⟩, ⟨%f10, %hf10, H10⟩, ⟨%u0, %fu, %hfu, Hu⟩, ⟨%t0, %ft, %hft, Ht⟩, Hk⟩
  subst hf4 hf8 hf10
  have e10 : (Memref.whole cc0_scratch0).view.readAt (Elt F) (Rect.unit (s := S1024x1024) ![0, 0] S1024x1024.size inb_S1024x1024_S1024x1024_0_0).toLoadRect f10 = f10 := View.readAt_full (Memref.whole cc0_scratch0).view f10 inb_S1024x1024_S1024x1024_0_0
  sl_exec (disch := first | exact hc1 | exact hc2)
  iapply Hk
  isplitl [H4]
  · iexists _; isplitr; · ipureintro; rfl
    iexact H4
  isplitl [H8]
  · iexists _; isplitr; · ipureintro; rfl
    iexact H8
  isplitl [H10]
  · iexists _; isplitr; · ipureintro; rfl
    iexact H10
  isplitl [Hu]
  · iexists _
    isplitr
    swap
    · iexact Hu
    · ipureintro
      refine (View.read_writes_full _ _ _ _ _).trans ?_
      rw [e10, View.readAt_full, ← read_at0 arg4 f4 inb_S2_S1_0 (Shape.Idx.first (by decide)), ← read_at1 arg4 f4 inb_S2_S1_1 (Shape.Idx.first (by decide))]
      rfl
  · iexists _
    isplitr
    swap
    · iexact Ht
    · ipureintro
      refine (View.read_writes_full _ _ _ _ _).trans ?_
      rw [e10, View.readAt_full, ← read_at0 arg4 f4 inb_S2_S1_0 (Shape.Idx.first (by decide)), ← read_at1 arg4 f4 inb_S2_S1_1 (Shape.Idx.first (by decide))]
      rfl

/-- On the diagonal: the block, its lower triangle mirrored from the upper, in the first staging buffer. -/
theorem compSeg_diag (heq : bi p = bj p) (x4 : Vec F S2 .f32) (x8 a : Vec F S1024x1024 .f32)
    (k : PUnit → Prog (TpuEff nD τ sig (Elt F) Λ₀ .tc) α) (Q : α → sProp 𝕄) :
    iprop(owns (c : Thread nD τ) arg4 fullShare x4 ∗ owns (c : Thread nD τ) arg8 fullShare x8
        ∗ owns (c : Thread nD τ) (Memref.whole cc0_scratch0) fullShare a
        ∗ (∃ f, owns (c : Thread nD τ) (Memref.whole cc0_scratch1) fullShare f)
        ∗ (iprop(owns (c : Thread nD τ) arg4 fullShare x4 ∗ owns (c : Thread nD τ) arg8 fullShare x8
            ∗ owns (c : Thread nD τ) (Memref.whole cc0_scratch0) fullShare a
            ∗ owns (c : Thread nD τ) (Memref.whole cc0_scratch1) fullShare (k0_pay7 (x4 at0) (x4 at1) x8 a))
          -∗ wp frame (wpE (defs₀ (F := F)) Variants.none c none) Set.univ (k ⟨⟩) Q))
      ⊢ wp frame (wpE (defs₀ (F := F)) Variants.none c none) Set.univ (compSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 (lit0 p) (lit1 p) k) Q := by
  have hc1 : ¬ _ := fun h => (branch_ne p).mp h heq
  have hc2 := (branch_eq p).mpr heq
  unfold compSeg
  unfold owns
  iintro ⟨⟨%f4, %hf4, H4⟩, ⟨%f8, %hf8, H8⟩, ⟨%f10, %hf10, H10⟩, ⟨%u0, %fu, %hfu, Hu⟩, Hk⟩
  subst hf4 hf8 hf10
  have e10 : (Memref.whole cc0_scratch0).view.readAt (Elt F) (Rect.unit (s := S1024x1024) ![0, 0] S1024x1024.size inb_S1024x1024_S1024x1024_0_0).toLoadRect f10 = f10 := View.readAt_full (Memref.whole cc0_scratch0).view f10 inb_S1024x1024_S1024x1024_0_0
  sl_exec (disch := first | exact hc1 | exact hc2)
  iapply Hk
  isplitl [H4]
  · iexists _; isplitr; · ipureintro; rfl
    iexact H4
  isplitl [H8]
  · iexists _; isplitr; · ipureintro; rfl
    iexact H8
  isplitl [H10]
  · iexists _; isplitr; · ipureintro; rfl
    iexact H10
  · iexists _
    isplitr
    swap
    · iexact Hu
    · ipureintro
      refine (View.read_writes_full _ _ _ _ _).trans ?_
      rw [e10, View.readAt_full, ← read_at0 arg4 f4 inb_S2_S1_0 (Shape.Idx.first (by decide)), ← read_at1 arg4 f4 inb_S2_S1_1 (Shape.Idx.first (by decide))]
      rfl

end Cert.KernelIdeal.Hand
end
-- ==== Proof.Flights.lean ====
module

public import proofs.«01_k».proof.Proof.Tables
public import proofs.«01_k».proof.Proof.Segs
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! A pair's two transfers into the result: the blocks they fill, and the flights the body holds from the issue to
    the wait. -/

/-- The executor's counters. -/
abbrev EC : UEmb Counters 𝕄 := countersEmb (U := Pipeline.UD sig nD τ)

/-- The positions of the result in block row `R` and block column `C`. -/
def blk (R C : ℕ) : Finset S11008x11008.Idx := Finset.univ.filter fun x => (x 0).val / 1024 = R ∧ (x 1).val / 1024 = C

theorem mem_blk {R C : ℕ} {x : S11008x11008.Idx} : x ∈ blk R C ↔ (x 0).val / 1024 = R ∧ (x 1).val / 1024 = C := by
  simp [blk]

/-- The result's block `(R, C)` holds the staging block `f`, on the positions the array has. -/
def Rel (R C : ℕ) (g : S11008x11008.Idx → Elt F .f32) (f : S1024x1024.Idx → Elt F .f32) : Prop :=
  ∀ (x : S11008x11008.Idx) (j : S1024x1024.Idx), (x 0).val = R * 1024 + (j 0).val → (x 1).val = C * 1024 + (j 1).val → g x = f j

/-- Block `(R, C)` of the result, holding some staging block that meets `P`. -/
def Done (c : Dev nD) (P : (S1024x1024.Idx → Elt F .f32) → Prop) (R C : ℕ) : sProp 𝕄 :=
  iprop(∃ (g : S11008x11008.Idx → Elt F .f32) (f : S1024x1024.Idx → Elt F .f32), ⌜P f ∧ Rel R C g f⌝ ∗ ((Memref.whole main_v8).view.loc (c : Thread nD τ) ↦[blk R C]{fullShare} g))

/-- Block `(R, C)` of the result at any contents. -/
def Home (c : Dev nD) (R C : ℕ) : sProp 𝕄 :=
  iprop(∃ (g : S11008x11008.Idx → Elt F .f32), ((Memref.whole main_v8).view.loc (c : Thread nD τ) ↦[blk R C]{fullShare} g))

/-- A flight carries anything more along, to be delivered with it. -/
theorem flight_frame (c : Thread nD τ) {sm : SemLoc sig} {N : ℕ} {D X : sProp 𝕄} :
    iprop(Transfers.Flight EC c sm () N D ∗ X) ⊢ (Transfers.Flight EC c sm () N iprop(D ∗ X) : sProp 𝕄) := by
  unfold Transfers.Flight
  iintro ⟨⟨⟨%R, HR, %hcap, %hpeek⟩, Hcred⟩, HX⟩
  isplitl [HR HX]
  · iexists iprop(R ∗ X)
    isplitl [HR HX]
    · isplitl [HR] <;> iassumption
    isplit
    · ipureintro
      intro K
      iintro ⟨⟨HR, HX⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HX⟩, HK⟩
      iapply (hpeek K)
      isplitl [HR]; · iexact HR
      iintro HR
      iapply HK
      isplitl [HR] <;> iassumption
  · iexact Hcred

/-- A transfer of the leading `sz` part of a staging buffer into block `(R, C)` of the result, issued: what is held
    of it is a flight that delivers the block holding what the staging buffer held, and the staging buffer back. -/
theorem issue (c : Dev nD) (B : Memref sig .tc .vmem S1024x1024 .f32) (hB : B.IsWhole) (sz off : Fin 2 → ℕ) (R C : ℕ)
    (P : (S1024x1024.Idx → Elt F .f32) → Prop) (f : S1024x1024.Idx → Elt F .f32) (hP : P f)
    (hoff : ∀ a, off a = (![R * 1024, C * 1024] : Fin 2 → ℕ) a) (hsz : ∀ a, sz a = 1024 ∨ off a + sz a = 11008)
    (hle : ∀ a, (![0, 0] : Fin 2 → ℕ) a + sz a ≤ S1024x1024.size a) (hin : ∀ a, off a + sz a ≤ S11008x11008.size a)
    (sem : DmaSem sig) (N : ℕ)
    (hN : ((Memref.whole main_v8).slice (Rect.unit (s := S11008x11008) off sz hin) (fun _ => rfl)).view.amount (SemLoc.dma sem) = N) (hN0 : 0 < N)
    {hsrc : (B.slice (Rect.unit (s := S1024x1024) ![0, 0] sz hle) (fun _ => rfl)).view.WordExact}
    {hdst : ((Memref.whole main_v8).slice (Rect.unit (s := S11008x11008) off sz hin) (fun _ => rfl)).view.WordExact}
    {hsem : DmaTarget.Typed (nD := nD) Space.vmem (SemLoc.dma sem) (DmaTarget.here (p := (Proc.tc : Proc τ)) ((Memref.whole main_v8).slice (Rect.unit (s := S11008x11008) off sz hin) (fun _ => rfl)))}
    {α : Type} (k : PUnit → Prog (TpuEff nD τ sig (Elt F) Λ₀ .tc) α) (Q : α → sProp 𝕄) :
    iprop(owns (c : Thread nD τ) B fullShare f ∗ Home (F := F) c R C ∗ semVal ((c : Thread nD τ), SemLoc.dma sem) 0
        ∗ (Transfers.Flight EC (c : Thread nD τ) (SemLoc.dma sem) () N iprop(Done c P R C ∗ ∃ f', owns (c : Thread nD τ) B fullShare f')
            -∗ wp frame (wpE (defs₀ (F := F)) Variants.none c none) Set.univ (k ⟨⟩) Q))
      ⊢ wp frame (wpE (defs₀ (F := F)) Variants.none c none) Set.univ
          (.op (.enqueueDma (B.slice (Rect.unit (s := S1024x1024) ![0, 0] sz hle) (fun _ => rfl)) (.here ((Memref.whole main_v8).slice (Rect.unit (s := S11008x11008) off sz hin) (fun _ => rfl))) (SemLoc.dma sem) hsrc hdst hsem) k) Q := by
  have hsub : ((Memref.whole main_v8).slice (Rect.unit (s := S11008x11008) off sz hin) (fun _ => rfl)).view.set ⊆ blk R C := by
    intro x hx
    obtain ⟨j, -, rfl⟩ := Finset.mem_map.mp hx
    rw [mem_blk]
    have h0 : (((Memref.whole main_v8).slice (Rect.unit (s := S11008x11008) off sz hin) (fun _ => rfl)).view.emb j 0).val = off 0 + 1 * (j 0).val := rfl
    have h1 : (((Memref.whole main_v8).slice (Rect.unit (s := S11008x11008) off sz hin) (fun _ => rfl)).view.emb j 1).val = off 1 + 1 * (j 1).val := rfl
    have l0 : (j 0).val < sz 0 := (j 0).isLt
    have l1 : (j 1).val < sz 1 := (j 1).isLt
    have e0 : sz 0 ≤ 1024 := by have := hle 0; change 0 + sz 0 ≤ 1024 at this; omega
    have e1 : sz 1 ≤ 1024 := by have := hle 1; change 0 + sz 1 ≤ 1024 at this; omega
    have o0 : off 0 = R * 1024 := hoff 0
    have o1 : off 1 = C * 1024 := hoff 1
    refine ⟨?_, ?_⟩
    · rw [h0]; omega
    · rw [h1]; omega
  have hsubB : (B.slice (Rect.unit (s := S1024x1024) ![0, 0] sz hle) (fun _ => rfl)).view.set ⊆ B.view.set := by
    intro x hx
    obtain ⟨j, -, rfl⟩ := Finset.mem_map.mp hx
    exact B.view.emb_mem_set _
  unfold owns Home
  iintro ⟨⟨%fs, %hfs, HB⟩, ⟨%g0, Hd⟩, Hv, Hk⟩
  ihave HB := (pointsTo_split_subset hsubB).1 $$ HB
  icases HB with ⟨HB1, HB2⟩
  iapply (Transfers.wp_dmaLocal EC Variants.none (c : Thread nD τ) none () N hN hN0 hsub (fs := fs) (fd := g0)) $$ [HB1 Hd Hv]
  · isplitl [HB1]; · iexact HB1
    isplitl [Hd]; · iexact Hd
    iexact Hv
  iintro HF
  iapply Hk
  ihave HF := (flight_frame (F := F) (c : Thread nD τ)) $$ [HF HB2]
  · isplitl [HF]; · iexact HF
    iexact HB2
  iapply (Transfers.Flight_mono EC (c : Thread nD τ) ?_) $$ HF
  iintro ⟨⟨Hd, Hs⟩, HB2⟩
  isplitl [Hd]
  · unfold Done
    iexists _, f
    isplitr
    swap
    · iexact Hd
    ipureintro
    refine ⟨hP, ?_⟩
    intro x j hx0 hx1
    have o0 : off 0 = R * 1024 := hoff 0
    have o1 : off 1 = C * 1024 := hoff 1
    have b0 : (x 0).val < 11008 := (x 0).isLt
    have b1 : (x 1).val < 11008 := (x 1).isLt
    have j0 : (j 0).val < 1024 := (j 0).isLt
    have j1 : (j 1).val < 1024 := (j 1).isLt
    have l0 : (j 0).val < sz 0 := by rcases hsz 0 with h | h <;> omega
    have l1 : (j 1).val < sz 1 := by rcases hsz 1 with h | h <;> omega
    let y : (⟨2, sz⟩ : Shape).Idx := fun a => ⟨(j a).val, by fin_cases a; exacts [l0, l1]⟩
    have hxy : x = ((Memref.whole main_v8).slice (Rect.unit (s := S11008x11008) off sz hin) (fun _ => rfl)).view.emb y := by
      funext a
      apply Fin.ext
      fin_cases a
      · change (x 0).val = off 0 + 1 * (j 0).val; omega
      · change (x 1).val = off 1 + 1 * (j 1).val; omega
    have hjy : B.view.read (Elt F) fs j = (B.slice (Rect.unit (s := S1024x1024) ![0, 0] sz hle) (fun _ => rfl)).view.read (Elt F) fs y := by
      change _ = B.view.read (Elt F) fs ((Rect.unit (s := S1024x1024) ![0, 0] sz hle).emb y)
      congr 1
      funext a
      apply Fin.ext
      fin_cases a
      · change (j 0).val = 0 + 1 * (j 0).val; omega
      · change (j 1).val = 0 + 1 * (j 1).val; omega
    rw [hxy]
    refine (View.write_emb_of_mem _ _ (Finset.mem_univ y)).trans ?_
    rw [← hfs, hjy]
    rfl
  · iexists f
    iexists fs
    isplitr; · ipureintro; exact hfs
    iapply (pointsTo_split_subset hsubB).2
    isplitl [Hs] <;> iassumption

end Cert.KernelIdeal.Hand
end
-- ==== Proof.Waits.lean ====
module

public import proofs.«01_k».proof.Proof.Flights
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The body's waits and issues run, for every kind of pair: on the diagonal one full block, off it two, in the last
    block column two cut blocks, in the corner one. -/

/-- The two transfer semaphores. -/
abbrev sU : DmaSem sig := ((cc0_scratch3.slice (Rect.unit (s := S2) ![0] S1.size inb_S2_S1_0)).squeeze S_ squeezes_S1_S_).sem
abbrev sT : DmaSem sig := ((cc0_scratch3.slice (Rect.unit (s := S2) ![1] S1.size inb_S2_S1_1)).squeeze S_ squeezes_S1_S_).sem

/-- The units of pair `q`'s first transfer. -/
def cu (q : Fin 66) : ℕ := if bj q < 10 then main_v8.dmaCredit S1024x1024 .f32 else if bi q < 10 then main_v8.dmaCredit S1024x768 .f32 else main_v8.dmaCredit S768x768 .f32
/-- The units of its second. -/
def ct (q : Fin 66) : ℕ := if bj q < 10 then main_v8.dmaCredit S1024x1024 .f32 else main_v8.dmaCredit S768x1024 .f32

/-- The first staging buffer at any contents. -/
def AnyU (c : Dev nD) : sProp 𝕄 := iprop(∃ f, owns (c : Thread nD τ) (Memref.whole cc0_scratch1) fullShare f)
/-- The second. -/
def AnyT (c : Dev nD) : sProp 𝕄 := iprop(∃ f, owns (c : Thread nD τ) (Memref.whole cc0_scratch2) fullShare f)

/-- The first transfer of pair `q` in flight. -/
def FlU (c : Dev nD) (P : (S1024x1024.Idx → Elt F .f32) → Prop) (q : Fin 66) : sProp 𝕄 :=
  Transfers.Flight EC (c : Thread nD τ) (SemLoc.dma sU) () (cu q) iprop(Done c P (bi q) (bj q) ∗ AnyU c)
/-- The second in flight off the diagonal; on it there is none. -/
def FlT (c : Dev nD) (P : (S1024x1024.Idx → Elt F .f32) → Prop) (q : Fin 66) : sProp 𝕄 :=
  if bi q = bj q then iprop(AnyT c ∗ semVal ((c : Thread nD τ), SemLoc.dma sT) 0)
  else Transfers.Flight EC (c : Thread nD τ) (SemLoc.dma sT) () (ct q) iprop(Done c P (bj q) (bi q) ∗ AnyT c)
/-- The mirrored block of pair `q` done (on the diagonal there is none). -/
def DoneT (c : Dev nD) (P : (S1024x1024.Idx → Elt F .f32) → Prop) (q : Fin 66) : sProp 𝕄 :=
  if bi q = bj q then BI.emp else Done c P (bj q) (bi q)
/-- The mirrored block of pair `q` at any contents. -/
def HomeT (c : Dev nD) (q : Fin 66) : sProp 𝕄 :=
  if bi q = bj q then BI.emp else Home (F := F) c (bj q) (bi q)
/-- The two tables. -/
def Tabs (c : Dev nD) (q0 q1 : PosShare TreeShare) : sProp 𝕄 :=
  iprop(((Memref.whole main_c).view.loc (c : Thread nD τ) ↦{q0} tab0) ∗ ((Memref.whole main_c_0).view.loc (c : Thread nD τ) ↦{q1} tab1))
/-- What the core has recorded of its waits, whatever it is. -/
def Owes (c : Dev nD) : sProp 𝕄 := iprop(∃ W, owes (c : Thread nD τ) 0 W)
/-- Everything at rest between a pair's waits and its issues. -/
def Idle (c : Dev nD) : sProp 𝕄 := iprop(AnyU c ∗ AnyT c ∗ semVal ((c : Thread nD τ), SemLoc.dma sU) 0 ∗ semVal ((c : Thread nD τ), SemLoc.dma sT) 0)

variable (c : Dev nD) (i : grid0.Coords) (q0 q1 : PosShare TreeShare)
    (arg4 : Memref sig .tc .smem S2 .f32) (harg4 : arg4.IsWhole) (arg5 : Memref sig .tc .vmem S1x1024x1024 .fp8e4m3) (harg5 : arg5.IsWhole)
    (arg6 : Memref sig .tc .vmem S1x1024x1024 .fp8e4m3) (harg6 : arg6.IsWhole) (arg7 : Memref sig .tc .vmem S1x1x1024 .f32) (harg7 : arg7.IsWhole)
    (arg8 : Memref sig .tc .vmem S1024x1024 .f32) (harg8 : arg8.IsWhole)
    (h3 : k0_cond3 i = 1#1) {α : Type}

/-- No waits at the first pair. -/
theorem waitSeg_first (hi : (i 0).val = 0)
    (k : PUnit → Prog (TpuEff nD τ sig (Elt F) Λ₀ .tc) α) (Q : α → sProp 𝕄) :
    (wp frame (wpE (defs₀ (F := F)) Variants.none c none) Set.univ (k ⟨⟩) Q)
      ⊢ wp frame (wpE (defs₀ (F := F)) Variants.none c none) Set.univ (waitSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 h3 k) Q := by
  have h4 : ¬ k0_cond4 i = 1#1 := fun h => absurd ((cond4_iff i).mp h) (by omega)
  unfold waitSeg
  rw [dif_neg h4]

/-- The waits on pair `q`'s transfers, at the pair after it. -/
theorem waitSeg_run (q : Fin 66) (hi : (i 0).val = q.val + 1) (PU PT : (S1024x1024.Idx → Elt F .f32) → Prop)
    (k : PUnit → Prog (TpuEff nD τ sig (Elt F) Λ₀ .tc) α) (Q : α → sProp 𝕄) :
    iprop(Tabs c q0 q1 ∗ FlU c PU q ∗ FlT c PT q ∗ Owes c
        ∗ (iprop(Tabs c q0 q1 ∗ Done c PU (bi q) (bj q) ∗ DoneT c PT q ∗ Idle c ∗ Owes c)
            -∗ wp frame (wpE (defs₀ (F := F)) Variants.none c none) Set.univ (k ⟨⟩) Q))
      ⊢ wp frame (wpE (defs₀ (F := F)) Variants.none c none) Set.univ (waitSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 h3 k) Q := by
  have hc4 : k0_cond4 i = 1#1 := (cond4_iff i).mpr (by omega)
  have ho2 : k0_off2 i 0 = q.val := (off2_val i (by omega)).trans (by omega)
  have hw0 : ∀ h x, (Memref.whole main_c).view.readAt (Elt F) (Rect.unit (s := S66) (k0_off2 i) S1.size h).toLoadRect tab0 x = lit0 q := (readTab (F := F) lit0 q _ ho2).1
  have hw1 : ∀ h x, (Memref.whole main_c_0).view.readAt (Elt F) (Rect.unit (s := S66) (k0_off2 i) S1.size h).toLoadRect tab1 x = lit1 q := (readTab (F := F) lit1 q _ ho2).2
  have e2 : ∀ h x, k0_chk2 i ((Memref.whole main_c).view.readAt (Elt F) (Rect.unit (s := S66) (k0_off2 i) S1.size h).toLoadRect tab0 x) := fun h x => by rw [hw0]; exact chk2 i q
  have e1 : ∀ h x h' x', k0_chk1 i ((Memref.whole main_c).view.readAt (Elt F) (Rect.unit (s := S66) (k0_off2 i) S1.size h).toLoadRect tab0 x) ((Memref.whole main_c_0).view.readAt (Elt F) (Rect.unit (s := S66) (k0_off2 i) S1.size h').toLoadRect tab1 x') := fun h x h' x' => by rw [hw0, hw1]; exact chk1 i q
  obtain ⟨w5, w6, w7, w8⟩ := wait_conds q
  have e5 : ∀ h' x', k0_cond5 ((Memref.whole main_c_0).view.readAt (Elt F) (Rect.unit (s := S66) (k0_off2 i) S1.size h').toLoadRect tab1 x') = 1#1 ↔ bj q < 10 := fun h' x' => by rw [hw1]; exact w5
  have e6 : ∀ h x h' x', k0_cond6 ((Memref.whole main_c).view.readAt (Elt F) (Rect.unit (s := S66) (k0_off2 i) S1.size h).toLoadRect tab0 x) ((Memref.whole main_c_0).view.readAt (Elt F) (Rect.unit (s := S66) (k0_off2 i) S1.size h').toLoadRect tab1 x') = 1#1 ↔ bi q ≠ bj q := fun h x h' x' => by rw [hw0, hw1]; exact w6
  have e7 : ∀ h x h' x', k0_cond7 ((Memref.whole main_c).view.readAt (Elt F) (Rect.unit (s := S66) (k0_off2 i) S1.size h).toLoadRect tab0 x) ((Memref.whole main_c_0).view.readAt (Elt F) (Rect.unit (s := S66) (k0_off2 i) S1.size h').toLoadRect tab1 x') = 1#1 ↔ bj q = 10 ∧ bi q < 10 := fun h x h' x' => by rw [hw0, hw1]; exact w7
  have e8 : ∀ h x, k0_cond8 ((Memref.whole main_c).view.readAt (Elt F) (Rect.unit (s := S66) (k0_off2 i) S1.size h).toLoadRect tab0 x) = 1#1 ↔ bi q = 10 := fun h x => by rw [hw0]; exact w8
  have hq : q ≠ 65 := fun h => by subst h; have := (i 0).isLt; change (i 0).val < 66 at this; have e : ((65 : Fin 66) : ℕ) = 65 := rfl; omega
  have hbi : bi q ≠ 10 := fun h => hq ((bi_ten q).mp h)
  have hle := bi_le_bj q
  have hj := bj_le q
  clear w5 w6 w7 w8 hw0 hw1
  unfold waitSeg Tabs FlU FlT DoneT Idle Owes
  by_cases h10 : bj q < 10
  · have hcu : cu q = main_v8.dmaCredit S1024x1024 .f32 := if_pos h10
    have hct : ct q = main_v8.dmaCredit S1024x1024 .f32 := if_pos h10
    rw [hcu, hct]
    have f5 := fun h' x' => (e5 h' x').mpr h10
    have f7 := fun h x h' x' => (not_congr (e7 h x h' x')).mpr (by omega)
    have f8 := fun h x => (not_congr (e8 h x)).mpr (by omega)
    by_cases hd : bi q = bj q
    · rw [if_pos hd, if_pos hd]
      have f6 := fun h x h' x' => (not_congr (e6 h x h' x')).mpr (by omega)
      iintro ⟨⟨H0, H1⟩, HU, HT, ⟨%W, Ho⟩, Hk⟩
      sl_exec (disch := first | (guard_target = k0_cond4 _ = _; exact hc4) | exact e2 _ _ | exact e1 _ _ _ _ | exact f5 _ _ | exact f6 _ _ _ _ | exact f7 _ _ _ _ | exact f8 _ _)
      iapply (Transfers.wp_waitLocal EC Variants.none (c : Thread nD τ) none () (N := main_v8.dmaCredit S1024x1024 .f32) rfl) $$ [HU Ho]
      · isplitl [HU]; · iexact HU
        iexact Ho
      iintro ⟨⟨HD, HAU⟩, HsU, Ho⟩
      icases HT with ⟨HAT, HsT⟩
      sl_exec (disch := first | (guard_target = k0_cond4 _ = _; exact hc4) | exact e2 _ _ | exact e1 _ _ _ _ | exact f5 _ _ | exact f6 _ _ _ _ | exact f7 _ _ _ _ | exact f8 _ _)
      iapply Hk
      isplitl [H0 H1]; · isplitl [H0] <;> iassumption
      isplitl [HD]; · iexact HD
      isplitr; · iempintro
      isplitl [HAU HAT HsU HsT]
      · isplitl [HAU]; · iexact HAU
        isplitl [HAT]; · iexact HAT
        isplitl [HsU] <;> iassumption
      iexists _; iexact Ho
    · rw [if_neg hd, if_neg hd]
      have f6 := fun h x h' x' => (e6 h x h' x').mpr hd
      iintro ⟨⟨H0, H1⟩, HU, HT, ⟨%W, Ho⟩, Hk⟩
      sl_exec (disch := first | (guard_target = k0_cond4 _ = _; exact hc4) | exact e2 _ _ | exact e1 _ _ _ _ | exact f5 _ _ | exact f6 _ _ _ _ | exact f7 _ _ _ _ | exact f8 _ _)
      iapply (Transfers.wp_waitLocal EC Variants.none (c : Thread nD τ) none () (N := main_v8.dmaCredit S1024x1024 .f32) rfl) $$ [HU Ho]
      · isplitl [HU]; · iexact HU
        iexact Ho
      iintro ⟨⟨HD, HAU⟩, HsU, Ho⟩
      sl_exec (disch := first | (guard_target = k0_cond4 _ = _; exact hc4) | exact e2 _ _ | exact e1 _ _ _ _ | exact f5 _ _ | exact f6 _ _ _ _ | exact f7 _ _ _ _ | exact f8 _ _)
      iapply (Transfers.wp_waitLocal EC Variants.none (c : Thread nD τ) none () (N := main_v8.dmaCredit S1024x1024 .f32) rfl) $$ [HT Ho]
      · isplitl [HT]; · iexact HT
        iexact Ho
      iintro ⟨⟨HDT, HAT⟩, HsT, Ho⟩
      sl_exec (disch := first | (guard_target = k0_cond4 _ = _; exact hc4) | exact e2 _ _ | exact e1 _ _ _ _ | exact f5 _ _ | exact f6 _ _ _ _ | exact f7 _ _ _ _ | exact f8 _ _)
      iapply Hk
      isplitl [H0 H1]; · isplitl [H0] <;> iassumption
      isplitl [HD]; · iexact HD
      isplitl [HDT]; · iexact HDT
      isplitl [HAU HAT HsU HsT]
      · isplitl [HAU]; · iexact HAU
        isplitl [HAT]; · iexact HAT
        isplitl [HsU] <;> iassumption
      iexists _; iexact Ho
  · have hcu : cu q = main_v8.dmaCredit S1024x768 .f32 := (if_neg h10).trans (if_pos (by omega))
    have hct : ct q = main_v8.dmaCredit S768x1024 .f32 := if_neg h10
    have hd : bi q ≠ bj q := by omega
    rw [hcu, hct, if_neg hd, if_neg hd]
    have f5 := fun h' x' => (not_congr (e5 h' x')).mpr h10
    have f7 := fun h x h' x' => (e7 h x h' x').mpr ⟨by omega, by omega⟩
    have f8 := fun h x => (not_congr (e8 h x)).mpr (by omega)
    iintro ⟨⟨H0, H1⟩, HU, HT, ⟨%W, Ho⟩, Hk⟩
    sl_exec (disch := first | (guard_target = k0_cond4 _ = _; exact hc4) | exact e2 _ _ | exact e1 _ _ _ _ | exact f5 _ _ | exact f7 _ _ _ _ | exact f8 _ _)
    iapply (Transfers.wp_waitLocal EC Variants.none (c : Thread nD τ) none () (N := main_v8.dmaCredit S1024x768 .f32) rfl) $$ [HU Ho]
    · isplitl [HU]; · iexact HU
      iexact Ho
    iintro ⟨⟨HD, HAU⟩, HsU, Ho⟩
    sl_exec (disch := first | (guard_target = k0_cond4 _ = _; exact hc4) | exact e2 _ _ | exact e1 _ _ _ _ | exact f5 _ _ | exact f7 _ _ _ _ | exact f8 _ _)
    iapply (Transfers.wp_waitLocal EC Variants.none (c : Thread nD τ) none () (N := main_v8.dmaCredit S768x1024 .f32) rfl) $$ [HT Ho]
    · isplitl [HT]; · iexact HT
      iexact Ho
    iintro ⟨⟨HDT, HAT⟩, HsT, Ho⟩
    sl_exec (disch := first | (guard_target = k0_cond4 _ = _; exact hc4) | exact e2 _ _ | exact e1 _ _ _ _ | exact f5 _ _ | exact f7 _ _ _ _ | exact f8 _ _)
    iapply Hk
    isplitl [H0 H1]; · isplitl [H0] <;> iassumption
    isplitl [HD]; · iexact HD
    isplitl [HDT]; · iexact HDT
    isplitl [HAU HAT HsU HsT]
    · isplitl [HAU]; · iexact HAU
      isplitl [HAT]; · iexact HAT
      isplitl [HsU] <;> iassumption
    iexists _; iexact Ho

end Cert.KernelIdeal.Hand
end
-- ==== Proof.Issues.lean ====
module

public import proofs.«01_k».proof.Proof.Waits
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! A pair's issues, and the last pair's own wait. -/

variable (c : Dev nD) (i : grid0.Coords) (q0 q1 : PosShare TreeShare)
    (arg4 : Memref sig .tc .smem S2 .f32) (harg4 : arg4.IsWhole) (arg5 : Memref sig .tc .vmem S1x1024x1024 .fp8e4m3) (harg5 : arg5.IsWhole)
    (arg6 : Memref sig .tc .vmem S1x1024x1024 .fp8e4m3) (harg6 : arg6.IsWhole) (arg7 : Memref sig .tc .vmem S1x1x1024 .f32) (harg7 : arg7.IsWhole)
    (arg8 : Memref sig .tc .vmem S1024x1024 .f32) (harg8 : arg8.IsWhole)
    (h3 : k0_cond3 i = 1#1) {α : Type}

theorem credit_pos {s : Shape} (h : 0 < s.numel) : 0 < main_v8.dmaCredit s .f32 := sig.dmaCredit_pos _ _ main_v8.idx s .f32 h

/-- The transfers of pair `p` issued: each of its blocks in flight from its staging buffer. -/
theorem issueSeg_run (p : Fin 66) (hi : (i 0).val = p.val) (PU PT : (S1024x1024.Idx → Elt F .f32) → Prop)
    (fu ft : S1024x1024.Idx → Elt F .f32) (hU : PU fu) (hT : bi p ≠ bj p → PT ft)
    (k : PUnit → Prog (TpuEff nD τ sig (Elt F) Λ₀ .tc) α) (Q : α → sProp 𝕄) :
    iprop(Tabs c q0 q1 ∗ owns (c : Thread nD τ) (Memref.whole cc0_scratch1) fullShare fu ∗ owns (c : Thread nD τ) (Memref.whole cc0_scratch2) fullShare ft
        ∗ semVal ((c : Thread nD τ), SemLoc.dma sU) 0 ∗ semVal ((c : Thread nD τ), SemLoc.dma sT) 0
        ∗ Home (F := F) c (bi p) (bj p) ∗ HomeT (F := F) c p
        ∗ (iprop(Tabs c q0 q1 ∗ FlU c PU p ∗ FlT c PT p)
            -∗ wp frame (wpE (defs₀ (F := F)) Variants.none c none) Set.univ (k ⟨⟩) Q))
      ⊢ wp frame (wpE (defs₀ (F := F)) Variants.none c none) Set.univ (issueSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 h3 k) Q := by
  have ho8 : k0_off8 i 0 = p.val := (off8_val i).trans hi
  have hw0 : ∀ h x, ((Memref.whole main_c).view.readAt (Elt F) (Rect.unit (s := S66) (k0_off8 i) S1.size h).toLoadRect tab0 x) = lit0 p := (readTab (F := F) lit0 p _ ho8).1
  have hw1 : ∀ h' x', ((Memref.whole main_c_0).view.readAt (Elt F) (Rect.unit (s := S66) (k0_off8 i) S1.size h').toLoadRect tab1 x') = lit1 p := (readTab (F := F) lit1 p _ ho8).2
  have e4 : ∀ h x, k0_chk4 i ((Memref.whole main_c).view.readAt (Elt F) (Rect.unit (s := S66) (k0_off8 i) S1.size h).toLoadRect tab0 x) := fun h x => by rw [hw0]; exact chk4 i p
  have e3 : ∀ h x h' x', k0_chk3 i ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') := fun h x h' x' => by rw [hw0, hw1]; exact chk3 i p
  obtain ⟨w5, w6, w7, w8⟩ := issue_conds p
  obtain ⟨o9, o10, o11, o12, o13⟩ := offs p
  have e5 : ∀ h' x', k0_cond11 ((Memref.whole main_c_0).view.readAt (Elt F) (Rect.unit (s := S66) (k0_off8 i) S1.size h').toLoadRect tab1 x') = 1#1 ↔ bj p < 10 := fun h' x' => by rw [hw1]; exact w5
  have e6 : ∀ h x h' x', k0_cond12 ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') = 1#1 ↔ bi p ≠ bj p := fun h x h' x' => by rw [hw0, hw1]; exact w6
  have e7 : ∀ h x h' x', k0_cond13 ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') = 1#1 ↔ bj p = 10 ∧ bi p < 10 := fun h x h' x' => by rw [hw0, hw1]; exact w7
  have e8 : ∀ h x, k0_cond14 ((Memref.whole main_c).view.readAt (Elt F) (Rect.unit (s := S66) (k0_off8 i) S1.size h).toLoadRect tab0 x) = 1#1 ↔ bi p = 10 := fun h x => by rw [hw0]; exact w8
  have g9 : ∀ h x h' x' z, k0_off9 ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') z = (![bi p * 1024, bj p * 1024] : Fin 2 → ℕ) z := fun h x h' x' => by rw [hw0, hw1]; exact o9
  have g10 : ∀ h x h' x' z, k0_off10 ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') z = (![bj p * 1024, bi p * 1024] : Fin 2 → ℕ) z := fun h x h' x' => by rw [hw0, hw1]; exact o10
  have g11 : ∀ h x h' x' z, k0_off11 ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') z = (![bi p * 1024, bj p * 1024] : Fin 2 → ℕ) z := fun h x h' x' => by rw [hw0, hw1]; exact o11
  have g12 : ∀ h x h' x' z, k0_off12 ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') z = (![bj p * 1024, bi p * 1024] : Fin 2 → ℕ) z := fun h x h' x' => by rw [hw0, hw1]; exact o12
  have g13 : ∀ h x h' x' z, k0_off13 ((Memref.whole main_c).view.readAt (Elt F) (Rect.unit (s := S66) (k0_off8 i) S1.size h).toLoadRect tab0 x) ((Memref.whole main_c_0).view.readAt (Elt F) (Rect.unit (s := S66) (k0_off8 i) S1.size h').toLoadRect tab1 x') z = (![bi p * 1024, bj p * 1024] : Fin 2 → ℕ) z := fun h x h' x' => by rw [hw0, hw1]; exact o13
  have hle := bi_le_bj p
  have hj := bj_le p
  clear w5 w6 w7 w8 hw0 hw1 o9 o10 o11 o12 o13
  unfold issueSeg Tabs FlU FlT HomeT
  by_cases h10 : bj p < 10
  · have hcu : cu p = main_v8.dmaCredit S1024x1024 .f32 := if_pos h10
    have hct : ct p = main_v8.dmaCredit S1024x1024 .f32 := if_pos h10
    rw [hcu, hct]
    have f5 := fun h' x' => (e5 h' x').mpr h10
    have f7 := fun h x h' x' => (not_congr (e7 h x h' x')).mpr (by omega)
    have f8 := fun h x => (not_congr (e8 h x)).mpr (by omega)
    by_cases hd : bi p = bj p
    · rw [if_pos hd, if_pos hd]
      have f6 := fun h x h' x' => (not_congr (e6 h x h' x')).mpr (by omega)
      iintro ⟨⟨H0, H1⟩, HBU, HBT, HsU, HsT, HU, HT, Hk⟩
      sl_exec (disch := first | exact e4 _ _ | exact e3 _ _ _ _ | exact f5 _ _ | exact f6 _ _ _ _ | exact f7 _ _ _ _ | exact f8 _ _)
      iapply (issue c (Memref.whole cc0_scratch1) (Memref.isWhole_whole _) _ _ (bi p) (bj p) PU fu hU (g9 _ _ _ _) (by intro z; left; fin_cases z <;> rfl) _ _ sU (main_v8.dmaCredit S1024x1024 .f32) rfl (credit_pos (by decide)))
      isplitl [HBU]; · iexact HBU
      isplitl [HU]; · iexact HU
      isplitl [HsU]; · iexact HsU
      iintro HFU
      sl_exec (disch := first | exact e4 _ _ | exact e3 _ _ _ _ | exact f5 _ _ | exact f6 _ _ _ _ | exact f7 _ _ _ _ | exact f8 _ _)
      iapply Hk
      isplitl [H0 H1]; · isplitl [H0] <;> iassumption
      isplitl [HFU]; · iexact HFU
      isplitl [HBT]
      · unfold AnyT; iexists ft; iexact HBT
      iexact HsT
    · rw [if_neg hd, if_neg hd]
      have f6 := fun h x h' x' => (e6 h x h' x').mpr hd
      iintro ⟨⟨H0, H1⟩, HBU, HBT, HsU, HsT, HU, HT, Hk⟩
      sl_exec (disch := first | exact e4 _ _ | exact e3 _ _ _ _ | exact f5 _ _ | exact f6 _ _ _ _ | exact f7 _ _ _ _ | exact f8 _ _)
      iapply (issue c (Memref.whole cc0_scratch1) (Memref.isWhole_whole _) _ _ (bi p) (bj p) PU fu hU (g9 _ _ _ _) (by intro z; left; fin_cases z <;> rfl) _ _ sU (main_v8.dmaCredit S1024x1024 .f32) rfl (credit_pos (by decide)))
      isplitl [HBU]; · iexact HBU
      isplitl [HU]; · iexact HU
      isplitl [HsU]; · iexact HsU
      iintro HFU
      sl_exec (disch := first | exact e4 _ _ | exact e3 _ _ _ _ | exact f5 _ _ | exact f6 _ _ _ _ | exact f7 _ _ _ _ | exact f8 _ _)
      iapply (issue c (Memref.whole cc0_scratch2) (Memref.isWhole_whole _) _ _ (bj p) (bi p) PT ft (hT hd) (g10 _ _ _ _) (by intro z; left; fin_cases z <;> rfl) _ _ sT (main_v8.dmaCredit S1024x1024 .f32) rfl (credit_pos (by decide)))
      isplitl [HBT]; · iexact HBT
      isplitl [HT]; · iexact HT
      isplitl [HsT]; · iexact HsT
      iintro HFT
      sl_exec (disch := first | exact e4 _ _ | exact e3 _ _ _ _ | exact f5 _ _ | exact f6 _ _ _ _ | exact f7 _ _ _ _ | exact f8 _ _)
      iapply Hk
      isplitl [H0 H1]; · isplitl [H0] <;> iassumption
      isplitl [HFU]; · iexact HFU
      iexact HFT
  · by_cases hq : bi p = 10
    · have hd : bi p = bj p := by omega
      have hcu : cu p = main_v8.dmaCredit S768x768 .f32 := (if_neg h10).trans (if_neg (by omega))
      rw [hcu, if_pos hd, if_pos hd]
      have f5 := fun h' x' => (not_congr (e5 h' x')).mpr h10
      have f7 := fun h x h' x' => (not_congr (e7 h x h' x')).mpr (by omega)
      have f8 := fun h x => (e8 h x).mpr hq
      have f6 := fun h x h' x' => (not_congr (e6 h x h' x')).mpr (by omega)
      iintro ⟨⟨H0, H1⟩, HBU, HBT, HsU, HsT, HU, HT, Hk⟩
      sl_exec (disch := first | exact e4 _ _ | exact e3 _ _ _ _ | exact f5 _ _ | exact f6 _ _ _ _ | exact f7 _ _ _ _ | exact f8 _ _)
      iapply (issue c (Memref.whole cc0_scratch1) (Memref.isWhole_whole _) _ _ (bi p) (bj p) PU fu hU (g13 _ _ _ _) (by intro z; rw [g13 _ _ _ _]; fin_cases z <;> first | (left; rfl) | (right; change bj p * 1024 + 768 = 11008; omega) | (right; change bi p * 1024 + 768 = 11008; omega)) _ _ sU (main_v8.dmaCredit S768x768 .f32) rfl (credit_pos (by decide)))
      isplitl [HBU]; · iexact HBU
      isplitl [HU]; · iexact HU
      isplitl [HsU]; · iexact HsU
      iintro HFU
      iapply Hk
      isplitl [H0 H1]; · isplitl [H0] <;> iassumption
      isplitl [HFU]; · iexact HFU
      isplitl [HBT]
      · unfold AnyT; iexists ft; iexact HBT
      iexact HsT
    · have hd : bi p ≠ bj p := by omega
      have hcu : cu p = main_v8.dmaCredit S1024x768 .f32 := (if_neg h10).trans (if_pos (by omega))
      have hct : ct p = main_v8.dmaCredit S768x1024 .f32 := if_neg h10
      rw [hcu, hct, if_neg hd, if_neg hd]
      have f5 := fun h' x' => (not_congr (e5 h' x')).mpr h10
      have f7 := fun h x h' x' => (e7 h x h' x').mpr ⟨by omega, by omega⟩
      have f8 := fun h x => (not_congr (e8 h x)).mpr hq
      have f6 := fun h x h' x' => (e6 h x h' x').mpr hd
      iintro ⟨⟨H0, H1⟩, HBU, HBT, HsU, HsT, HU, HT, Hk⟩
      sl_exec (disch := first | exact e4 _ _ | exact e3 _ _ _ _ | exact f5 _ _ | exact f6 _ _ _ _ | exact f7 _ _ _ _ | exact f8 _ _)
      iapply (issue c (Memref.whole cc0_scratch1) (Memref.isWhole_whole _) _ _ (bi p) (bj p) PU fu hU (g11 _ _ _ _) (by intro z; rw [g11 _ _ _ _]; fin_cases z <;> first | (left; rfl) | (right; change bj p * 1024 + 768 = 11008; omega) | (right; change bi p * 1024 + 768 = 11008; omega)) _ _ sU (main_v8.dmaCredit S1024x768 .f32) rfl (credit_pos (by decide)))
      isplitl [HBU]; · iexact HBU
      isplitl [HU]; · iexact HU
      isplitl [HsU]; · iexact HsU
      iintro HFU
      sl_exec (disch := first | exact e4 _ _ | exact e3 _ _ _ _ | exact f5 _ _ | exact f6 _ _ _ _ | exact f7 _ _ _ _ | exact f8 _ _)
      iapply (issue c (Memref.whole cc0_scratch2) (Memref.isWhole_whole _) _ _ (bj p) (bi p) PT ft (hT hd) (g12 _ _ _ _) (by intro z; rw [g12 _ _ _ _]; fin_cases z <;> first | (left; rfl) | (right; change bj p * 1024 + 768 = 11008; omega) | (right; change bi p * 1024 + 768 = 11008; omega)) _ _ sT (main_v8.dmaCredit S768x1024 .f32) rfl (credit_pos (by decide)))
      isplitl [HBT]; · iexact HBT
      isplitl [HT]; · iexact HT
      isplitl [HsT]; · iexact HsT
      iintro HFT
      sl_exec (disch := first | exact e4 _ _ | exact e3 _ _ _ _ | exact f5 _ _ | exact f6 _ _ _ _ | exact f7 _ _ _ _ | exact f8 _ _)
      iapply Hk
      isplitl [H0 H1]; · isplitl [H0] <;> iassumption
      isplitl [HFU]; · iexact HFU
      iexact HFT

/-- No wait of its own before the last pair. -/
theorem finSeg_skip (hi : (i 0).val ≠ 65)
    (k : PUnit → Prog (TpuEff nD τ sig (Elt F) Λ₀ .tc) α) (Q : α → sProp 𝕄) :
    (wp frame (wpE (defs₀ (F := F)) Variants.none c none) Set.univ (k ⟨⟩) Q)
      ⊢ wp frame (wpE (defs₀ (F := F)) Variants.none c none) Set.univ (finSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 h3 k) Q := by
  have h15 : ¬ k0_cond15 i = 1#1 := fun h => absurd ((cond15_iff i).mp h) hi
  unfold finSeg
  rw [dif_neg h15]

/-- The last pair's own wait. -/
theorem finSeg_run (hi : (i 0).val = 65) (PU PT : (S1024x1024.Idx → Elt F .f32) → Prop)
    (k : PUnit → Prog (TpuEff nD τ sig (Elt F) Λ₀ .tc) α) (Q : α → sProp 𝕄) :
    iprop(Tabs c q0 q1 ∗ FlU c PU 65 ∗ FlT c PT 65 ∗ Owes c
        ∗ (iprop(Tabs c q0 q1 ∗ Done c PU (bi 65) (bj 65) ∗ DoneT c PT 65 ∗ Idle c ∗ Owes c)
            -∗ wp frame (wpE (defs₀ (F := F)) Variants.none c none) Set.univ (k ⟨⟩) Q))
      ⊢ wp frame (wpE (defs₀ (F := F)) Variants.none c none) Set.univ (finSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 h3 k) Q := by
  have h15 : k0_cond15 i = 1#1 := (cond15_iff i).mpr hi
  have ho : k0_off14 i 0 = (65 : Fin 66).val := (off14_val i).trans hi
  have hw0 : ∀ h x, ((Memref.whole main_c).view.readAt (Elt F) (Rect.unit (s := S66) (k0_off14 i) S1.size h).toLoadRect tab0 x) = lit0 65 := (readTab (F := F) lit0 65 _ ho).1
  have hw1 : ∀ h' x', ((Memref.whole main_c_0).view.readAt (Elt F) (Rect.unit (s := S66) (k0_off14 i) S1.size h').toLoadRect tab1 x') = lit1 65 := (readTab (F := F) lit1 65 _ ho).2
  have e6 : ∀ h x, k0_chk6 i ((Memref.whole main_c).view.readAt (Elt F) (Rect.unit (s := S66) (k0_off14 i) S1.size h).toLoadRect tab0 x) := fun h x => by rw [hw0]; exact chk6 i 65
  have e5 : ∀ h x h' x', k0_chk5 i ((Memref.whole main_c).view.readAt (Elt F) (Rect.unit (s := S66) (k0_off14 i) S1.size h).toLoadRect tab0 x) ((Memref.whole main_c_0).view.readAt (Elt F) (Rect.unit (s := S66) (k0_off14 i) S1.size h').toLoadRect tab1 x') := fun h x h' x' => by rw [hw0, hw1]; exact chk5 i 65
  obtain ⟨w1, w2, w3⟩ := final_conds
  have f1 : ∀ h' x', ¬ k0_cond16 ((Memref.whole main_c_0).view.readAt (Elt F) (Rect.unit (s := S66) (k0_off14 i) S1.size h').toLoadRect tab1 x') = 1#1 := fun h' x' => by rw [hw1]; exact w1
  have f2 : ∀ h x h' x', ¬ k0_cond18 ((Memref.whole main_c).view.readAt (Elt F) (Rect.unit (s := S66) (k0_off14 i) S1.size h).toLoadRect tab0 x) ((Memref.whole main_c_0).view.readAt (Elt F) (Rect.unit (s := S66) (k0_off14 i) S1.size h').toLoadRect tab1 x') = 1#1 := fun h x h' x' => by rw [hw0, hw1]; exact w2
  have f3 : ∀ h x, k0_cond19 ((Memref.whole main_c).view.readAt (Elt F) (Rect.unit (s := S66) (k0_off14 i) S1.size h).toLoadRect tab0 x) = 1#1 := fun h x => by rw [hw0]; exact w3
  have hd : bi 65 = bj 65 := by decide +kernel
  have hcu : cu 65 = main_v8.dmaCredit S768x768 .f32 := (if_neg (by decide +kernel)).trans (if_neg (by decide +kernel))
  clear hw0 hw1 w1 w2 w3
  unfold finSeg Tabs FlU FlT DoneT Idle Owes
  rw [hcu, if_pos hd, if_pos hd]
  iintro ⟨⟨H0, H1⟩, HU, ⟨HAT, HsT⟩, ⟨%W, Ho⟩, Hk⟩
  sl_exec (disch := first | (guard_target = k0_cond15 _ = _; exact h15) | exact e6 _ _ | exact e5 _ _ _ _ | exact f1 _ _ | exact f2 _ _ _ _ | exact f3 _ _)
  iapply (Transfers.wp_waitLocal EC Variants.none (c : Thread nD τ) none () (N := main_v8.dmaCredit S768x768 .f32) rfl) $$ [HU Ho]
  · isplitl [HU]; · iexact HU
    iexact Ho
  iintro ⟨⟨HD, HAU⟩, HsU, Ho⟩
  iapply Hk
  isplitl [H0 H1]; · isplitl [H0] <;> iassumption
  isplitl [HD]; · iexact HD
  isplitr; · iempintro
  isplitl [HAU HAT HsU HsT]
  · isplitl [HAU]; · iexact HAU
    isplitl [HAT]; · iexact HAT
    isplitl [HsU] <;> iassumption
  iexists _; iexact Ho

end Cert.KernelIdeal.Hand
end
-- ==== Proof.Inv.lean ====
module

public import proofs.«01_k».proof.Proof.Accum
public import proofs.«01_k».proof.Proof.Final
public import proofs.«01_k».proof.Proof.Issues
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The body's invariant between grid points, and the body at one point. -/

/-- What the buffers must hold: the accumulator before point `n` of the grid (inside a pair), and each pair's two
    staging blocks. -/
structure Spec (F : FTy → Type) where
  acc : ℕ → (S1024x1024.Idx → Elt F .f32) → Prop
  u : Fin 66 → (S1024x1024.Idx → Elt F .f32) → Prop
  t : Fin 66 → (S1024x1024.Idx → Elt F .f32) → Prop

variable (K : Spec F) (c : Dev nD)

/-- Pair `q`'s blocks of the result done. -/
def DD (q : Fin 66) : sProp 𝕄 := iprop(Done c (K.u q) (bi q) (bj q) ∗ DoneT c (K.t q) q)
/-- Pair `q`'s blocks of the result not yet written. -/
def HH (c : Dev nD) (q : Fin 66) : sProp 𝕄 := iprop(Home (F := F) c (bi q) (bj q) ∗ HomeT (F := F) c q)

/-- The transfers in flight once `d` pairs have issued theirs: the last one's, all taken in at the end. -/
def Fl (d : ℕ) : sProp 𝕄 :=
  if h : 0 < d ∧ d < 66 then iprop(FlU c (K.u ⟨d - 1, by omega⟩) ⟨d - 1, by omega⟩ ∗ FlT c (K.t ⟨d - 1, by omega⟩) ⟨d - 1, by omega⟩)
  else Idle c

/-- The result's blocks once `d` pairs have issued theirs. -/
def Blocks (d : ℕ) : sProp 𝕄 :=
  bigSep Finset.univ fun q : Fin 66 => if q.val + 1 < d ∨ d = 66 then DD K c q else if q.val + 1 = d then BI.emp else HH (F := F) c q
/-- They with the last issued pair's transfers taken in. -/
def Mid (d : ℕ) : sProp 𝕄 := bigSep Finset.univ fun q : Fin 66 => if q.val < d then DD K c q else HH (F := F) c q

/-- The accumulator before point `n`. -/
def AccAt (n : ℕ) : sProp 𝕄 :=
  iprop(∃ a, ⌜n % 16 ≠ 0 → K.acc n a⌝ ∗ owns (c : Thread nD τ) (Memref.whole cc0_scratch0) fullShare a)

/-- The invariant before point `n`. -/
def PhiAt (q0 q1 : PosShare TreeShare) (n : ℕ) : sProp 𝕄 :=
  iprop(Tabs c q0 q1 ∗ AccAt K c n ∗ Fl K c (n / 16) ∗ Blocks K c (n / 16))

theorem sep_swap (A D : sProp 𝕄) : iprop(A ∗ D) ⊢ iprop(D ∗ A) := by
  iintro ⟨H, HD⟩
  isplitl [HD] <;> iassumption
theorem emp_put (A : sProp 𝕄) : A ⊢ iprop(BI.emp ∗ A) := by
  iintro H
  isplitr
  · iempintro
  · iexact H
theorem sep_put (A D : sProp 𝕄) : iprop(iprop(BI.emp ∗ A) ∗ D) = iprop(D ∗ A) := by
  have h1 : iprop(iprop(BI.emp ∗ A) ∗ D) ⊢ iprop(D ∗ A) := by
    iintro ⟨⟨-, H⟩, HD⟩
    isplitl [HD] <;> iassumption
  have h2 : iprop(D ∗ A) ⊢ iprop(iprop(BI.emp ∗ A) ∗ D) := by
    iintro ⟨HD, H⟩
    isplitr [HD]
    · isplitr
      · iempintro
      · iexact H
    · iexact HD
  exact BI.equiv_iff.mp ⟨h1, h2⟩

theorem blocks_zero : Blocks K c 0 = Mid K c 0 := by
  unfold Blocks Mid
  refine bigSep_congr fun q _ => ?_
  rw [if_neg (by omega), if_neg (by omega), if_neg (by omega)]

theorem blocks_mid (p : ℕ) (q : Fin 66) (hq : p = q.val + 1) (hp : p < 66) : iprop(Blocks K c p ∗ DD K c q) = Mid K c p := by
  unfold Blocks Mid
  rw [bigSep_univ_split q, bigSep_univ_split (Φ := fun q : Fin 66 => if q.val < p then DD K c q else HH (F := F) c q) q]
  rw [if_neg (by omega), if_pos hq.symm, if_pos (by omega)]
  have e : (bigSep (Finset.univ.erase q) fun x : Fin 66 => if x.val + 1 < p ∨ p = 66 then DD K c x else if x.val + 1 = p then BI.emp else HH (F := F) c x)
      = bigSep (Finset.univ.erase q) fun x : Fin 66 => if x.val < p then DD K c x else HH (F := F) c x := by
    refine bigSep_congr fun x hx => ?_
    have hne : x ≠ q := Finset.ne_of_mem_erase hx
    have hne' : x.val ≠ q.val := fun h => hne (Fin.ext h)
    by_cases h : x.val < p
    · rw [if_pos (by omega), if_pos h]
    · rw [if_neg (by omega), if_neg (by omega), if_neg h]
  rw [e]
  exact sep_put _ _

/-- The blocks outside pair `p`, while its own are being written. -/
def Rest (p : Fin 66) : sProp 𝕄 := bigSep (Finset.univ.erase p) fun q : Fin 66 => if q.val < p.val then DD K c q else HH (F := F) c q

theorem mid_split (p : Fin 66) : Mid K c p.val = iprop(HH (F := F) c p ∗ Rest K c p) := by
  unfold Mid Rest
  rw [bigSep_univ_split p, if_neg (by omega)]
  rfl

theorem rest_blocks (p : Fin 66) (hp : p.val + 1 < 66) : Rest K c p ⊢ Blocks K c (p.val + 1) := by
  unfold Rest Blocks
  rw [bigSep_univ_split (Φ := fun q : Fin 66 => if q.val + 1 < p.val + 1 ∨ p.val + 1 = 66 then DD K c q else if q.val + 1 = p.val + 1 then BI.emp else HH (F := F) c q) p]
  rw [if_neg (by omega), if_pos rfl]
  have e : (bigSep (Finset.univ.erase p) fun q : Fin 66 => if q.val < p.val then DD K c q else HH (F := F) c q)
      = bigSep (Finset.univ.erase p) fun q : Fin 66 => if q.val + 1 < p.val + 1 ∨ p.val + 1 = 66 then DD K c q else if q.val + 1 = p.val + 1 then BI.emp else HH (F := F) c q := by
    refine bigSep_congr fun x hx => ?_
    have hne : x ≠ p := Finset.ne_of_mem_erase hx
    have hne' : x.val ≠ p.val := fun h => hne (Fin.ext h)
    by_cases h : x.val < p.val
    · rw [if_pos h, if_pos (by omega)]
    · rw [if_neg h, if_neg (by omega), if_neg (by omega)]
  rw [e]
  exact emp_put _

theorem rest_last (p : Fin 66) (hp : p.val + 1 = 66) : iprop(Rest K c p ∗ DD K c p) ⊢ Blocks K c (p.val + 1) := by
  unfold Rest Blocks
  rw [bigSep_univ_split (Φ := fun q : Fin 66 => if q.val + 1 < p.val + 1 ∨ p.val + 1 = 66 then DD K c q else if q.val + 1 = p.val + 1 then BI.emp else HH (F := F) c q) p]
  rw [if_pos (.inr hp)]
  have e : (bigSep (Finset.univ.erase p) fun q : Fin 66 => if q.val < p.val then DD K c q else HH (F := F) c q)
      = bigSep (Finset.univ.erase p) fun q : Fin 66 => if q.val + 1 < p.val + 1 ∨ p.val + 1 = 66 then DD K c q else if q.val + 1 = p.val + 1 then BI.emp else HH (F := F) c q := by
    refine bigSep_congr fun x hx => ?_
    have hne : x ≠ p := Finset.ne_of_mem_erase hx
    have hne' : x.val ≠ p.val := fun h => hne (Fin.ext h)
    have := x.isLt
    rw [if_pos (by omega), if_pos (.inr hp)]
  rw [e]
  exact sep_swap _ _

variable (q0 q1 : PosShare TreeShare) (i : grid0.Coords) (n : ℕ) (p : Fin 66) (hp : (i 0).val = p.val) (hn : n = p.val * 16 + (i 1).val)
    (arg4 : Memref sig .tc .smem S2 .f32) (harg4 : arg4.IsWhole) (arg5 : Memref sig .tc .vmem S1x1024x1024 .fp8e4m3) (harg5 : arg5.IsWhole)
    (arg6 : Memref sig .tc .vmem S1x1024x1024 .fp8e4m3) (harg6 : arg6.IsWhole) (arg7 : Memref sig .tc .vmem S1x1x1024 .f32) (harg7 : arg7.IsWhole)
    (arg8 : Memref sig .tc .vmem S1024x1024 .f32) (harg8 : arg8.IsWhole)
    (x4 : Vec F S2 .f32) (x5 x6 : Vec F S1x1024x1024 .fp8e4m3) (x7 : Vec F S1x1x1024 .f32) (x8 : Vec F S1024x1024 .f32)

/-- The five windows at their contents. -/
def Wins : sProp 𝕄 :=
  iprop(owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8)

section
variable (hfirst : (i 1).val = 0 → K.acc (n + 1) (k0_pay2 x7 x5 x6))
    (hstep : ∀ a, 0 < (i 1).val → K.acc n a → K.acc (n + 1) (k0_pay3 x7 x5 x6 a))

include hp hn hfirst hstep in
/-- The accumulation at any step: the accumulator moves on by one step. -/
theorem preSeg_run {α : Type} (k : Elt F .i32 → Elt F .i32 → Prog (TpuEff nD τ sig (Elt F) Λ₀ .tc) α) (Q : α → sProp 𝕄) :
    iprop(Tabs c q0 q1 ∗ AccAt K c n ∗ Wins c arg4 arg5 arg6 arg7 arg8 x4 x5 x6 x7 x8
        ∗ (iprop(Tabs c q0 q1 ∗ (∃ a, ⌜K.acc (n + 1) a⌝ ∗ owns (c : Thread nD τ) (Memref.whole cc0_scratch0) fullShare a) ∗ Wins c arg4 arg5 arg6 arg7 arg8 x4 x5 x6 x7 x8)
          -∗ wp frame (wpE (defs₀ (F := F)) Variants.none c none) Set.univ (k (lit0 p) (lit1 p)) Q))
      ⊢ wp frame (wpE (defs₀ (F := F)) Variants.none c none) Set.univ (preSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 k) Q := by
  have hk : (i 1).val < 16 := (i 1).isLt
  unfold Tabs AccAt Wins
  iintro ⟨⟨H0, H1⟩, ⟨%a, %ha, Ha⟩, ⟨H4, H5, H6, H7, H8⟩, Hk⟩
  by_cases h0 : (i 1).val = 0
  · iapply (preSeg_first c i p hp arg4 harg4 arg5 harg5 arg6 harg6 arg7 harg7 arg8 harg8 q0 q1 h0 x5 x6 x7 k Q)
    isplitl [H0]; · iexact H0
    isplitl [H1]; · iexact H1
    isplitl [H5]; · iexact H5
    isplitl [H6]; · iexact H6
    isplitl [H7]; · iexact H7
    isplitl [Ha]; · iexists a; iexact Ha
    iintro ⟨H0, H1, H5, H6, H7, Ha⟩
    iapply Hk
    isplitl [H0 H1]; · isplitl [H0] <;> iassumption
    isplitl [Ha]
    · iexists _; isplitr; swap; · iexact Ha
      ipureintro; exact hfirst h0
    isplitl [H4]; · iexact H4
    isplitl [H5]; · iexact H5
    isplitl [H6]; · iexact H6
    isplitl [H7]; · iexact H7
    iexact H8
  · iapply (preSeg_later c i p hp arg4 harg4 arg5 harg5 arg6 harg6 arg7 harg7 arg8 harg8 q0 q1 (by omega) x5 x6 x7 a k Q)
    isplitl [H0]; · iexact H0
    isplitl [H1]; · iexact H1
    isplitl [H5]; · iexact H5
    isplitl [H6]; · iexact H6
    isplitl [H7]; · iexact H7
    isplitl [Ha]; · iexact Ha
    iintro ⟨H0, H1, H5, H6, H7, Ha⟩
    iapply Hk
    isplitl [H0 H1]; · isplitl [H0] <;> iassumption
    isplitl [Ha]
    · iexists _; isplitr; swap; · iexact Ha
      ipureintro; exact hstep a (by omega) (ha (by omega))
    isplitl [H4]; · iexact H4
    isplitl [H5]; · iexact H5
    isplitl [H6]; · iexact H6
    isplitl [H7]; · iexact H7
    iexact H8
end

section
variable (hfinU : ∀ a, (i 1).val = 15 → K.acc (n + 1) a → bi p ≠ bj p → K.u p (k0_pay5 (x4 at0) (x4 at1) x8 a))
    (hfinT : ∀ a, (i 1).val = 15 → K.acc (n + 1) a → bi p ≠ bj p → K.t p (k0_pay6 (x4 at0) (x4 at1) x8 a))
    (hfinD : ∀ a, (i 1).val = 15 → K.acc (n + 1) a → bi p = bj p → K.u p (k0_pay7 (x4 at0) (x4 at1) x8 a))
    (a : Vec F S1024x1024 .f32) (h15 : (i 1).val = 15) (ha : K.acc (n + 1) a)

include hfinU hfinT hfinD h15 ha in
/-- The last step's finished blocks: both staging buffers as the pair asks. -/
theorem compSeg_run {α : Type} (k : PUnit → Prog (TpuEff nD τ sig (Elt F) Λ₀ .tc) α) (Q : α → sProp 𝕄) :
    iprop(Wins c arg4 arg5 arg6 arg7 arg8 x4 x5 x6 x7 x8 ∗ owns (c : Thread nD τ) (Memref.whole cc0_scratch0) fullShare a ∗ AnyU c ∗ AnyT c
        ∗ (iprop(Wins c arg4 arg5 arg6 arg7 arg8 x4 x5 x6 x7 x8 ∗ owns (c : Thread nD τ) (Memref.whole cc0_scratch0) fullShare a
              ∗ ∃ fu ft, ⌜K.u p fu ∧ (bi p ≠ bj p → K.t p ft)⌝ ∗ owns (c : Thread nD τ) (Memref.whole cc0_scratch1) fullShare fu ∗ owns (c : Thread nD τ) (Memref.whole cc0_scratch2) fullShare ft)
          -∗ wp frame (wpE (defs₀ (F := F)) Variants.none c none) Set.univ (k ⟨⟩) Q))
      ⊢ wp frame (wpE (defs₀ (F := F)) Variants.none c none) Set.univ (compSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 (lit0 p) (lit1 p) k) Q := by
  unfold Wins AnyU AnyT
  iintro ⟨⟨H4, H5, H6, H7, H8⟩, Ha, HU, ⟨%ft, HT⟩, Hk⟩
  by_cases hd : bi p = bj p
  · iapply (compSeg_diag c i p arg4 harg4 arg5 harg5 arg6 harg6 arg7 harg7 arg8 harg8 hd x4 x8 a k Q)
    isplitl [H4]; · iexact H4
    isplitl [H8]; · iexact H8
    isplitl [Ha]; · iexact Ha
    isplitl [HU]; · iexact HU
    iintro ⟨H4, H8, Ha, HU⟩
    iapply Hk
    isplitl [H4 H5 H6 H7 H8]
    · isplitl [H4]; · iexact H4
      isplitl [H5]; · iexact H5
      isplitl [H6]; · iexact H6
      isplitl [H7]; · iexact H7
      iexact H8
    isplitl [Ha]; · iexact Ha
    iexists _, ft
    isplitr; swap
    · isplitl [HU]; · iexact HU
      iexact HT
    ipureintro
    exact ⟨hfinD a h15 ha hd, fun h => absurd hd h⟩
  · iapply (compSeg_off c i p arg4 harg4 arg5 harg5 arg6 harg6 arg7 harg7 arg8 harg8 hd x4 x8 a k Q)
    isplitl [H4]; · iexact H4
    isplitl [H8]; · iexact H8
    isplitl [Ha]; · iexact Ha
    isplitl [HU]; · iexact HU
    isplitl [HT]; · iexists ft; iexact HT
    iintro ⟨H4, H8, Ha, HU, HT⟩
    iapply Hk
    isplitl [H4 H5 H6 H7 H8]
    · isplitl [H4]; · iexact H4
      isplitl [H5]; · iexact H5
      isplitl [H6]; · iexact H6
      isplitl [H7]; · iexact H7
      iexact H8
    isplitl [Ha]; · iexact Ha
    iexists _, _
    isplitr; swap
    · isplitl [HU]; · iexact HU
      iexact HT
    ipureintro
    exact ⟨hfinU a h15 ha hd, fun h => hfinT a h15 ha h⟩
end

section
variable (hfirst : (i 1).val = 0 → K.acc (n + 1) (k0_pay2 x7 x5 x6))
    (hstep : ∀ a, 0 < (i 1).val → K.acc n a → K.acc (n + 1) (k0_pay3 x7 x5 x6 a))
    (hfinU : ∀ a, (i 1).val = 15 → K.acc (n + 1) a → bi p ≠ bj p → K.u p (k0_pay5 (x4 at0) (x4 at1) x8 a))
    (hfinT : ∀ a, (i 1).val = 15 → K.acc (n + 1) a → bi p ≠ bj p → K.t p (k0_pay6 (x4 at0) (x4 at1) x8 a))
    (hfinD : ∀ a, (i 1).val = 15 → K.acc (n + 1) a → bi p = bj p → K.u p (k0_pay7 (x4 at0) (x4 at1) x8 a))

/-- The waits at pair `p`: the pair before's blocks are done. -/
theorem waits_any {α : Type} (h3 : k0_cond3 i = 1#1) (hp : (i 0).val = p.val) (k : PUnit → Prog (TpuEff nD τ sig (Elt F) Λ₀ .tc) α) (Q : α → sProp 𝕄) :
    iprop(Tabs c q0 q1 ∗ Fl K c p.val ∗ Blocks K c p.val ∗ Owes c
        ∗ (iprop(Tabs c q0 q1 ∗ Idle c ∗ Mid K c p.val ∗ Owes c)
          -∗ wp frame (wpE (defs₀ (F := F)) Variants.none c none) Set.univ (k ⟨⟩) Q))
      ⊢ wp frame (wpE (defs₀ (F := F)) Variants.none c none) Set.univ (waitSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 h3 k) Q := by
  have hlt := p.isLt
  by_cases h0 : p.val = 0
  · have e1 : Fl K c p.val = Idle c := dif_neg (by omega)
    have e2 : Blocks K c p.val = Mid K c p.val := by rw [h0]; exact blocks_zero K c
    rw [e1, e2]
    iintro ⟨HT, HF, HB, Ho, Hk⟩
    iapply (waitSeg_first c i arg4 harg4 arg5 harg5 arg6 harg6 arg7 harg7 arg8 harg8 h3 (hp.trans h0) k Q)
    iapply Hk
    isplitl [HT]; · iexact HT
    isplitl [HF]; · iexact HF
    isplitl [HB] <;> iassumption
  · have e1 : Fl K c p.val = iprop(FlU c (K.u ⟨p.val - 1, by omega⟩) ⟨p.val - 1, by omega⟩ ∗ FlT c (K.t ⟨p.val - 1, by omega⟩) ⟨p.val - 1, by omega⟩) := dif_pos (by omega)
    have e2 := blocks_mid K c p.val ⟨p.val - 1, by omega⟩ (by change _ = p.val - 1 + 1; omega) hlt
    rw [e1, ← e2]
    unfold DD
    iintro ⟨HT, ⟨HU, HV⟩, HB, Ho, Hk⟩
    iapply (waitSeg_run c i q0 q1 arg4 harg4 arg5 harg5 arg6 harg6 arg7 harg7 arg8 harg8 h3 ⟨p.val - 1, by omega⟩ (by change _ = p.val - 1 + 1; omega) (K.u ⟨p.val - 1, by omega⟩) (K.t ⟨p.val - 1, by omega⟩) k Q)
    isplitl [HT]; · iexact HT
    isplitl [HU]; · iexact HU
    isplitl [HV]; · iexact HV
    isplitl [Ho]; · iexact Ho
    iintro ⟨HT, HD, HDT, HI, Ho⟩
    iapply Hk
    isplitl [HT]; · iexact HT
    isplitl [HI]; · iexact HI
    isplitl [HB HD HDT]
    · isplitl [HB]; · iexact HB
      isplitl [HD] <;> iassumption
    iexact Ho

/-- The end of pair `p`'s last step: its transfers stay in flight, except the last pair's, taken in. -/
theorem fin_any {α : Type} (h3 : k0_cond3 i = 1#1) (hp : (i 0).val = p.val) (k : PUnit → Prog (TpuEff nD τ sig (Elt F) Λ₀ .tc) α) (Q : α → sProp 𝕄) :
    iprop(Tabs c q0 q1 ∗ (FlU c (K.u p) p ∗ FlT c (K.t p) p) ∗ Rest K c p ∗ Owes c
        ∗ (iprop(Tabs c q0 q1 ∗ Fl K c (p.val + 1) ∗ Blocks K c (p.val + 1) ∗ Owes c)
          -∗ wp frame (wpE (defs₀ (F := F)) Variants.none c none) Set.univ (k ⟨⟩) Q))
      ⊢ wp frame (wpE (defs₀ (F := F)) Variants.none c none) Set.univ (finSeg i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3 h3 k) Q := by
  have hlt := p.isLt
  by_cases hl : p.val + 1 < 66
  · have e1 : Fl K c (p.val + 1) = iprop(FlU c (K.u p) p ∗ FlT c (K.t p) p) := dif_pos (by omega)
    rw [e1]
    iintro ⟨HT, HF, HB, Ho, Hk⟩
    iapply (finSeg_skip c i arg4 harg4 arg5 harg5 arg6 harg6 arg7 harg7 arg8 harg8 h3 (by omega) k Q)
    iapply Hk
    isplitl [HT]; · iexact HT
    isplitl [HF]; · iexact HF
    isplitl [HB]; · iapply (rest_blocks K c p hl); iexact HB
    iexact Ho
  · have e1 : Fl K c (p.val + 1) = Idle c := dif_neg (by omega)
    have e65 : p = 65 := Fin.ext (by change p.val = 65; omega)
    rw [e1]
    iintro ⟨HT, ⟨HU, HV⟩, HB, Ho, Hk⟩
    have hb := rest_last K c p (by omega)
    subst e65
    iapply (finSeg_run c i q0 q1 arg4 harg4 arg5 harg5 arg6 harg6 arg7 harg7 arg8 harg8 h3 hp (K.u 65) (K.t 65) k Q)
    isplitl [HT]; · iexact HT
    isplitl [HU]; · iexact HU
    isplitl [HV]; · iexact HV
    isplitl [Ho]; · iexact Ho
    iintro ⟨HT, HD, HDT, HI, Ho⟩
    iapply Hk
    isplitl [HT]; · iexact HT
    isplitl [HI]; · iexact HI
    isplitl [HB HD HDT]
    · iapply hb
      isplitl [HB]; · iexact HB
      unfold DD
      isplitl [HD] <;> iassumption
    iexact Ho

include hp hn hfirst hstep hfinU hfinT hfinD in
/-- The body at one grid point takes the invariant to the next point's, leaving its windows as found. -/
theorem body_run :
    iprop(PhiAt K c q0 q1 n ∗ Owes c ∗ Wins c arg4 arg5 arg6 arg7 arg8 x4 x5 x6 x7 x8)
      ⊢ wp frame (wpE (defs₀ (F := F)) Variants.none c none) Set.univ (cc0_gram i (Memref.whole main_c) (Memref.isWhole_whole _) (Memref.whole main_c_0) (Memref.isWhole_whole _) arg4 harg4 arg5 harg5 arg6 harg6 arg7 harg7 arg8 harg8
        (Memref.whole main_v8) (Memref.isWhole_whole _) (Memref.whole cc0_scratch0) (Memref.isWhole_whole _) (Memref.whole cc0_scratch1) (Memref.isWhole_whole _) (Memref.whole cc0_scratch2) (Memref.isWhole_whole _) cc0_scratch3)
        (fun _ => iprop(PhiAt K c q0 q1 (n + 1) ∗ Owes c ∗ Wins c arg4 arg5 arg6 arg7 arg8 x4 x5 x6 x7 x8)) := by
  have hk : (i 1).val < 16 := (i 1).isLt
  have hd : n / 16 = p.val := by omega
  rw [gram_eq_segs.{0}]
  unfold PhiAt
  rw [hd]
  iintro ⟨⟨HT, Ha, HF, HB⟩, Ho, HW⟩
  iapply (preSeg_run K c q0 q1 i n p hp hn arg4 harg4 arg5 harg5 arg6 harg6 arg7 harg7 arg8 harg8 x4 x5 x6 x7 x8 hfirst hstep)
  isplitl [HT]; · iexact HT
  isplitl [Ha]; · iexact Ha
  isplitl [HW]; · iexact HW
  iintro ⟨HT, ⟨%a, %ha, Ha⟩, HW⟩
  by_cases h15 : (i 1).val = 15
  · have h3 : k0_cond3 i = 1#1 := (cond3_iff i).mpr h15
    have hd' : (n + 1) / 16 = p.val + 1 := by omega
    rw [dif_pos h3, part1_eq_segs.{0,0,0}, wp_bind, hd']
    iapply (waits_any K c q0 q1 i p arg4 harg4 arg5 harg5 arg6 harg6 arg7 harg7 arg8 harg8 h3 hp)
    isplitl [HT]; · iexact HT
    isplitl [HF]; · iexact HF
    isplitl [HB]; · iexact HB
    isplitl [Ho]; · iexact Ho
    iintro ⟨HT, HI, HB, Ho⟩
    unfold Idle
    icases HI with ⟨HAU, HAT, HsU, HsT⟩
    iapply (compSeg_run K c i n p arg4 harg4 arg5 harg5 arg6 harg6 arg7 harg7 arg8 harg8 x4 x5 x6 x7 x8 hfinU hfinT hfinD a h15 ha)
    isplitl [HW]; · iexact HW
    isplitl [Ha]; · iexact Ha
    isplitl [HAU]; · iexact HAU
    isplitl [HAT]; · iexact HAT
    iintro ⟨HW, Ha, ⟨%fu, %ft, %hf, HAU, HAT⟩⟩
    ihave HB := (Entails.of_eq (mid_split K c p)) $$ HB
    unfold HH
    icases HB with ⟨⟨HH1, HH2⟩, HB⟩
    iapply (issueSeg_run c i q0 q1 arg4 harg4 arg5 harg5 arg6 harg6 arg7 harg7 arg8 harg8 h3 p hp (K.u p) (K.t p) fu ft hf.1 hf.2)
    isplitl [HT]; · iexact HT
    isplitl [HAU]; · iexact HAU
    isplitl [HAT]; · iexact HAT
    isplitl [HsU]; · iexact HsU
    isplitl [HsT]; · iexact HsT
    isplitl [HH1]; · iexact HH1
    isplitl [HH2]; · iexact HH2
    iintro ⟨HT, HU, HV⟩
    rw [wp_ret]
    imodintro
    iapply (fin_any K c q0 q1 i p arg4 harg4 arg5 harg5 arg6 harg6 arg7 harg7 arg8 harg8 h3 hp)
    isplitl [HT]; · iexact HT
    isplitl [HU HV]; · isplitl [HU] <;> iassumption
    isplitl [HB]; · iexact HB
    isplitl [Ho]; · iexact Ho
    iintro ⟨HT, HF, HB, Ho⟩
    rw [wp_ret]
    imodintro
    isplitl [HT Ha HF HB]
    · isplitl [HT]; · iexact HT
      isplitl [Ha]
      · unfold AccAt; iexists a
        isplitr; · ipureintro; exact fun _ => ha
        iexact Ha
      isplitl [HF] <;> iassumption
    isplitl [Ho] <;> iassumption
  · have h3 : ¬ k0_cond3 i = 1#1 := fun h => h15 ((cond3_iff i).mp h)
    have hd' : (n + 1) / 16 = p.val := by omega
    rw [dif_neg h3, hd', wp_ret]
    imodintro
    isplitl [HT Ha HF HB]
    · isplitl [HT]; · iexact HT
      isplitl [Ha]
      · unfold AccAt; iexists a
        isplitr; · ipureintro; exact fun _ => ha
        iexact Ha
      isplitl [HF] <;> iassumption
    isplitl [Ho] <;> iassumption
end

end Cert.KernelIdeal.Hand
end
-- ==== Proof.Join.lean ====
module

public import proofs.«01_k».proof.Proof.Inv
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The result as a whole, cut into the pairs' blocks and put together from them. -/

/-- The positions of pair `q`'s blocks. -/
def pblk (q : Fin 66) : Finset S11008x11008.Idx := if bi q = bj q then blk (bi q) (bj q) else blk (bi q) (bj q) ∪ blk (bj q) (bi q)

theorem mem_pblk {q : Fin 66} {x : S11008x11008.Idx} :
    x ∈ pblk q ↔ ((x 0).val / 1024 = bi q ∧ (x 1).val / 1024 = bj q) ∨ ((x 0).val / 1024 = bj q ∧ (x 1).val / 1024 = bi q) := by
  unfold pblk
  split
  · rename_i h; rw [mem_blk, h]; simp
  · rw [Finset.mem_union, mem_blk, mem_blk]

theorem pblk_disjoint (q q' : Fin 66) (h : q ≠ q') : Disjoint (pblk q) (pblk q') := by
  rw [Finset.disjoint_left]
  intro x hx hx'
  rw [mem_pblk] at hx hx'
  have l := bi_le_bj q
  have l' := bi_le_bj q'
  exact h (pair_inj q q' (by omega) (by omega))

theorem pblk_cover : Finset.univ.biUnion pblk = (Finset.univ : Finset S11008x11008.Idx) := by
  ext x
  simp only [Finset.mem_biUnion, Finset.mem_univ, true_and, iff_true]
  have b0 : (x 0).val < 11008 := (x 0).isLt
  have b1 : (x 1).val < 11008 := (x 1).isLt
  rcases Nat.le_total ((x 0).val / 1024) ((x 1).val / 1024) with h | h
  · obtain ⟨p, h1, h2⟩ := pair_surj ⟨(x 0).val / 1024, by omega⟩ ⟨(x 1).val / 1024, by omega⟩ h
    exact ⟨p, mem_pblk.mpr (.inl ⟨h1.symm, h2.symm⟩)⟩
  · obtain ⟨p, h1, h2⟩ := pair_surj ⟨(x 1).val / 1024, by omega⟩ ⟨(x 0).val / 1024, by omega⟩ h
    exact ⟨p, mem_pblk.mpr (.inr ⟨h2.symm, h1.symm⟩)⟩

theorem blk_disjoint {R C : ℕ} (h : R ≠ C) : Disjoint (blk R C) (blk C R) := by
  rw [Finset.disjoint_left]
  intro x hx hx'
  rw [mem_blk] at hx hx'
  exact h (hx.1.symm.trans hx'.1)

variable (K : Spec F) (c : Dev nD)

/-- Pair `q`'s blocks of the array `g` are as its staging blocks must be. -/
def Good (q : Fin 66) (g : S11008x11008.Idx → Elt F .f32) : Prop :=
  (∃ f, K.u q f ∧ Rel (bi q) (bj q) g f) ∧ (bi q ≠ bj q → ∃ f, K.t q f ∧ Rel (bj q) (bi q) g f)

theorem Rel.congr {R C : ℕ} {g g' : S11008x11008.Idx → Elt F .f32} {f : S1024x1024.Idx → Elt F .f32} (h : Rel R C g f)
    (e : ∀ x ∈ blk R C, g' x = g x) : Rel R C g' f := by
  intro x j h0 h1
  rw [e x (mem_blk.mpr ⟨?_, ?_⟩)]
  · exact h x j h0 h1
  · have : (j 0).val < 1024 := (j 0).isLt
    omega
  · have : (j 1).val < 1024 := (j 1).isLt
    omega

theorem Good.congr {q : Fin 66} {g g' : S11008x11008.Idx → Elt F .f32} (h : Good K q g) (e : ∀ x ∈ pblk q, g' x = g x) : Good K q g' := by
  obtain ⟨⟨f, hf, hr⟩, h2⟩ := h
  refine ⟨⟨f, hf, hr.congr fun x hx => e x (mem_pblk.mpr (.inl (mem_blk.mp hx)))⟩, fun hne => ?_⟩
  obtain ⟨f', hf', hr'⟩ := h2 hne
  exact ⟨f', hf', hr'.congr fun x hx => e x (mem_pblk.mpr (.inr (mem_blk.mp hx)))⟩

/-- A pair's blocks, both at hand. -/
theorem home_of (q : Fin 66) (g : S11008x11008.Idx → Elt F .f32) :
    ((Memref.whole main_v8).view.loc (c : Thread nD τ) ↦[pblk q]{fullShare} g : sProp 𝕄) ⊢ HH (F := F) c q := by
  unfold HH HomeT Home
  by_cases h : bi q = bj q
  · rw [if_pos h]
    unfold pblk
    rw [if_pos h]
    iintro H
    isplitl [H]
    · iexists g; iexact H
    · iempintro
  · rw [if_neg h]
    unfold pblk
    rw [if_neg h]
    refine (pointsTo_union (blk_disjoint h)).1.trans ?_
    iintro ⟨H1, H2⟩
    isplitl [H1]
    · iexists g; iexact H1
    · iexists g; iexact H2

/-- The whole result is every pair's blocks. -/
theorem homes (g : S11008x11008.Idx → Elt F .f32) :
    ((Memref.whole main_v8).view.loc (c : Thread nD τ) ↦{fullShare} g : sProp 𝕄) ⊢ Blocks K c 0 := by
  rw [blocks_zero]
  unfold Mid
  have e : ((Memref.whole main_v8).view.loc (c : Thread nD τ) ↦{fullShare} g : sProp 𝕄)
      = bigSep Finset.univ fun q : Fin 66 => ((Memref.whole main_v8).view.loc (c : Thread nD τ) ↦[pblk q]{fullShare} g : sProp 𝕄) := by
    refine Eq.trans ?_ (pointsTo_biUnion (ℓ := (Memref.whole main_v8).view.loc (c : Thread nD τ)) (f := g) Finset.univ pblk fun q _ q' _ h => pblk_disjoint q q' h)
    rw [pblk_cover]
  rw [e]
  refine bigSep_mono fun q _ => ?_
  rw [if_neg (by omega)]
  exact home_of c q g

theorem done_of (q : Fin 66) :
    DD K c q ⊢ (iprop(∃ g, ⌜Good K q g⌝ ∗ ((Memref.whole main_v8).view.loc (c : Thread nD τ) ↦[pblk q]{fullShare} g)) : sProp 𝕄) := by
  unfold DD DoneT Done
  by_cases h : bi q = bj q
  · rw [if_pos h]
    iintro ⟨⟨%g, %f, %hg, H⟩, -⟩
    iexists g
    isplitr
    · ipureintro; exact ⟨⟨f, hg⟩, fun hne => absurd h hne⟩
    · unfold pblk; rw [if_pos h]; iexact H
  · rw [if_neg h]
    iintro ⟨⟨%g, %f, %hg, H⟩, ⟨%g', %f', %hg', H'⟩⟩
    ihave HJ := (pointsTo_join (ℓ := (Memref.whole main_v8).view.loc (c : Thread nD τ)) (q := fullShare) (f := g) (g := g') (I := blk (bi q) (bj q)) (J := blk (bj q) (bi q)) (blk_disjoint h)) $$ [H H']
    · isplitl [H] <;> iassumption
    iexists _
    isplitr; swap
    · unfold pblk; rw [if_neg h]; iexact HJ
    ipureintro
    refine ⟨⟨f, hg.1, hg.2.congr fun x hx => ?_⟩, fun _ => ⟨f', hg'.1, hg'.2.congr fun x hx => ?_⟩⟩
    · exact Finset.piecewise_eq_of_notMem _ _ _ (Finset.disjoint_left.mp (blk_disjoint h) hx)
    · exact Finset.piecewise_eq_of_mem _ _ _ hx

theorem done_join (f₀ : S11008x11008.Idx → Elt F .f32) (S : Finset (Fin 66)) :
    bigSep S (fun q => DD K c q) ⊢ (iprop(∃ g, ⌜∀ q ∈ S, Good K q g⌝ ∗ ((Memref.whole main_v8).view.loc (c : Thread nD τ) ↦[S.biUnion pblk]{fullShare} g)) : sProp 𝕄) := by
  classical
  induction S using Finset.induction_on with
  | empty =>
    iintro -
    iexists f₀
    isplitr
    · ipureintro; intro t ht; exact absurd ht (Finset.notMem_empty _)
    · rw [Finset.biUnion_empty, pointsTo_empty]; iempintro
  | insert q S hq ih =>
    rw [bigSep_insert hq, Finset.biUnion_insert]
    have hd : Disjoint (pblk q) (S.biUnion pblk) :=
      (Finset.disjoint_biUnion_right _ _ _).mpr fun t' ht' => pblk_disjoint q t' (fun e => hq (e ▸ ht'))
    refine (show iprop(DD K c q ∗ bigSep S (fun q => DD K c q)) ⊢ _ from ?_)
    iintro ⟨Ht, HS⟩
    ihave H := ih $$ HS
    icases H with ⟨%g, %hg, HS⟩
    ihave H := (done_of K c q) $$ Ht
    icases H with ⟨%g', %hg', Ht⟩
    iexists (S.biUnion pblk).piecewise g g'
    isplitr
    · ipureintro
      intro t' ht'
      rcases Finset.mem_insert.mp ht' with rfl | ht'
      · exact hg'.congr K fun x hx => Finset.piecewise_eq_of_notMem _ _ _ (Finset.disjoint_left.mp hd hx)
      · exact (hg t' ht').congr K fun x hx => Finset.piecewise_eq_of_mem _ _ _ (Finset.mem_biUnion.mpr ⟨t', ht', hx⟩)
    · iapply (pointsTo_join hd)
      isplitl [Ht] <;> iassumption

/-- All pairs done: the result whole, every block as its pair asks. -/
theorem dones (f₀ : S11008x11008.Idx → Elt F .f32) :
    Blocks K c 66 ⊢ (iprop(∃ g, ⌜∀ q, Good K q g⌝ ∗ ((Memref.whole main_v8).view.loc (c : Thread nD τ) ↦{fullShare} g)) : sProp 𝕄) := by
  have e : Blocks K c 66 = bigSep Finset.univ (fun q => DD K c q) := by
    unfold Blocks
    exact bigSep_congr fun q _ => if_pos (.inr rfl)
  rw [e]
  refine (done_join K c f₀ Finset.univ).trans ?_
  rw [pblk_cover]
  iintro ⟨%g, %hg, H⟩
  iexists g
  isplitr
  · ipureintro; exact fun q => hg q (Finset.mem_univ q)
  · iexact H

end Cert.KernelIdeal.Hand
end
-- ==== Proof.Dats.lean ====
module

public import proofs.«01_k».proof.Proof.Join
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The proof data of the pallas_call: what its windows hold at each point, and the body's obligation. -/

/-- The grid point's coordinates: the pair and the step. -/
theorem coords_val : ∀ t : Fin grid0.N, (grid0.coords t 0).val = t.val / 16 ∧ (grid0.coords t 1).val = t.val % 16 := by decide +kernel

/-- The tables' contents. -/
def pf0 : pre0.Contents (Elt F) := fun | 0 => tab0 | 1 => tab1 | ⟨_ + 2, h⟩ => absurd h (Nat.not_lt.2 (Nat.le_add_left _ _))
/-- They are admitted. -/
abbrev adm : (p : Fin 1) → (pcfgs (F := F) p).Adm := fun _ => ⟨pf0, (trivial : True)⟩
/-- The pallas_call at these tables. -/
abbrev cfgA : Cfg sig Λ₀ := Pipeline.pin (pcfgs (F := F)) adm 0

variable (m : (ℓ : Loc nD τ sig) → Buf (Elt F) ℓ)

/-- The buffers as the pallas_call finds them. -/
def V0 (c : Dev nD) : Valuation τ sig (Elt F) := StableHlo.after hostOps0 (fun b => m (c, b))

/-- Each windowed array's contents. -/
def A0 (c : Dev nD) (w : Fin 5) : Buf (Elt F) (((cfgA (F := F)).win w).arr.view.loc (c : Thread nD τ)) := V0 m c (Proc.devRef .tc (Pipeline.arrRef spec0 w))

/-- What window `w`'s buffer holds at point `t`: its block, over `d` where the array ends. -/
def X (c : Dev nD) (w : Fin 5) (t : Fin grid0.N) (d : ((cfgA (F := F)).win w).block.Idx → Elt F ((cfgA (F := F)).win w).elt) :
    ((cfgA (F := F)).win w).block.Idx → Elt F ((cfgA (F := F)).win w).elt :=
  ((cfgA (F := F)).win w).fill (grid0.coords t) d ((((cfgA (F := F)).win w).blk t).view.read (Elt F) (A0 m c w))

instance (e : EltTy) : Nonempty (Elt F e) := by
  cases e <;> first | exact ⟨FloatOps.ofBits _ 0⟩ | exact ⟨(0 : BitVec _)⟩

/-- Some contents, where any will do. -/
def anyX (w : Fin 5) : ((cfgA (F := F)).win w).block.Idx → Elt F ((cfgA (F := F)).win w).elt := fun _ => Classical.arbitrary _

/-- What the buffers must hold, met by what the body computes. -/
structure Meets (K : Spec F) (c : Dev nD) : Prop where
  first : ∀ t : Fin grid0.N, (grid0.coords t 1).val = 0 → ∀ d1 d2, K.acc (t.val + 1) (k0_pay2 (X m c 3 t (anyX 3)) (X m c 1 t d1) (X m c 2 t d2))
  step : ∀ t : Fin grid0.N, 0 < (grid0.coords t 1).val → ∀ d1 d2 a, K.acc t.val a → K.acc (t.val + 1) (k0_pay3 (X m c 3 t (anyX 3)) (X m c 1 t d1) (X m c 2 t d2) a)
  finU : ∀ (t : Fin grid0.N) (p : Fin 66), (grid0.coords t 0).val = p.val → (grid0.coords t 1).val = 15 → ∀ d4 a, K.acc (t.val + 1) a → bi p ≠ bj p →
    K.u p (k0_pay5 (X m c 0 t (anyX 0) at0) (X m c 0 t (anyX 0) at1) (X m c 4 t d4) a)
  finT : ∀ (t : Fin grid0.N) (p : Fin 66), (grid0.coords t 0).val = p.val → (grid0.coords t 1).val = 15 → ∀ d4 a, K.acc (t.val + 1) a → bi p ≠ bj p →
    K.t p (k0_pay6 (X m c 0 t (anyX 0) at0) (X m c 0 t (anyX 0) at1) (X m c 4 t d4) a)
  finD : ∀ (t : Fin grid0.N) (p : Fin 66), (grid0.coords t 0).val = p.val → (grid0.coords t 1).val = 15 → ∀ d4 a, K.acc (t.val + 1) a → bi p = bj p →
    K.u p (k0_pay7 (X m c 0 t (anyX 0) at0) (X m c 0 t (anyX 0) at1) (X m c 4 t d4) a)

variable (K : Dev nD → Spec F)

/-- The proof data: the arrays as found, every window left holding its block, the invariant `PhiAt`. -/
def dats : (p : Fin 1) → (c : Dev nD) → Dat τ (Elt F) Unit ℕ (Pipeline.UD sig nD τ) ℕ (Pipeline.pin (pcfgs (F := F)) adm p) c := fun _ c =>
  { A := A0 m c
    after := fun w t => X m c w t (anyX w)
    Φ := fun t => PhiAt (K c) c fullShare.right fullShare.right t.val
    q := fun w => Pipeline.shareOf spec0 w
    owed := fun _ => 0 }

theorem clip_eq (w : Fin 5) (t t' : Fin grid0.N) (h : ((cfgA (F := F)).win w).index t = ((cfgA (F := F)).win w).index t') :
    ((cfgA (F := F)).win w).clip (grid0.coords t) = ((cfgA (F := F)).win w).clip (grid0.coords t') := by
  fin_cases w
  · rfl
  · funext a; exact congrArg (fun n => Pipeline.Clip.of n (S1x1024x1024.size a) (S8x11008x2048.size a)) (congrFun h a)
  · funext a; exact congrArg (fun n => Pipeline.Clip.of n (S1x1024x1024.size a) (S8x11008x2048.size a)) (congrFun h a)
  · rfl
  · funext a; exact congrArg (fun n => Pipeline.Clip.of n (S1024x1024.size a) (S11008x11008.size a)) (congrFun h a)

theorem before_eq (c : Dev nD) (w : Fin 5) (t : Fin grid0.N) (d) : (dats m K 0 c).before w t d = X m c w t d := by
  refine (dats m K 0 c).before_in_eq_fetched w (by fin_cases w <;> rfl) (by fin_cases w <;> exact fun _ => rfl) (clip_eq w) (fun t => ?_) t d
  exact ((cfgA (F := F)).win w).cut_fill _ _ _

/-- A window moved whole keeps nothing of what its buffer held. -/
theorem fill_all {G : Pipeline.Grid} (w : Pipeline.Window sig G) (i : G.Coords) {α : Type} (d d' : w.block.Idx → α) (g) (h : ∀ j, w.moved i j = true) :
    w.fill i d g = w.fill i d' g := by
  funext j
  unfold Window.fill
  rw [dif_pos (h j), dif_pos (h j)]
theorem X_any0 (c : Dev nD) (t : Fin grid0.N) (d) : X m c 0 t d = X m c 0 t (anyX 0) :=
  fill_all ((cfgA (F := F)).win 0) (grid0.coords t) _ _ _ fun j => (((cfgA (F := F)).win 0).moved_iff _ j).mpr fun a => (j a).isLt
theorem X_any3 (c : Dev nD) (t : Fin grid0.N) (d) : X m c 3 t d = X m c 3 t (anyX 3) :=
  fill_all ((cfgA (F := F)).win 3) (grid0.coords t) _ _ _ fun j => (((cfgA (F := F)).win 3).moved_iff _ j).mpr fun a => (j a).isLt

theorem X_fill (c : Dev nD) (w : Fin 5) (t : Fin grid0.N) (d) :
    ((cfgA (F := F)).win w).fill (grid0.coords t) d (((cfgA (F := F)).win w).cut (grid0.coords t) ((dats m K 0 c).after w t)) = X m c w t d := by
  change ((cfgA (F := F)).win w).fill (grid0.coords t) d (((cfgA (F := F)).win w).cut (grid0.coords t) (X m c w t (anyX w))) = X m c w t d
  unfold X
  rw [((cfgA (F := F)).win w).cut_fill]

theorem phi_eq (c : Dev nD) (n : Fin ((cfgA (F := F)).N + 1)) : (dats m K 0 c).Φ n = PhiAt (K c) c fullShare.right fullShare.right n.val := rfl

variable (hK : ∀ c, Meets m (K c) c)

include hK in
/-- The body's obligation at every point. -/
theorem body (c : Dev nD) : Pipeline.BodyObligationLoose (dats m K 0 c) defs₀ Variants.none () Set.univ := fun t => by
  have hN : t.val < 1056 := N_0 ▸ t.isLt
  obtain ⟨hc0, hc1⟩ := coords_val t
  rw [bigSep_W0, bigSep_W0, phi_eq, phi_eq, Fin.val_castSucc, Fin.val_succ]
  simp only
  have hb := body_run (K c) c fullShare.right fullShare.right (grid0.coords t) t.val ⟨t.val / 16, by omega⟩ hc0 (by rw [hc1]; change t.val = t.val / 16 * 16 + t.val % 16; omega)
    (spec0_0.stage ((cfgA (F := F)).slots t 0)) (hstage0_0 _) (spec0_1.stage ((cfgA (F := F)).slots t 1)) (hstage0_1 _) (spec0_2.stage ((cfgA (F := F)).slots t 2)) (hstage0_2 _)
    (spec0_3.stage ((cfgA (F := F)).slots t 3)) (hstage0_3 _) (spec0_4.stage ((cfgA (F := F)).slots t 4)) (hstage0_4 _)
  iintro ⟨HΦ, Ho, ⟨%d0, H0⟩, ⟨%d1, H1⟩, ⟨%d2, H2⟩, ⟨%d3, H3⟩, ⟨%d4, H4⟩⟩
  rw [before_eq, before_eq, before_eq, before_eq, before_eq, X_any0, X_any3]
  have hb := hb (X m c 0 t (anyX 0)) (X m c 1 t d1) (X m c 2 t d2) (X m c 3 t (anyX 3)) (X m c 4 t d4)
    (fun h => (hK c).first t h d1 d2) (fun a h => (hK c).step t h d1 d2 a) (fun a h => (hK c).finU t _ hc0 h d4 a) (fun a h => (hK c).finT t _ hc0 h d4 a) (fun a h => (hK c).finD t _ hc0 h d4 a)
  iapply (wp_mono _ _ _ ?_)
  rotate_left
  · iapply hb
    isplitl [HΦ]; · iexact HΦ
    isplitl [Ho]
    · icases Ho with ⟨%W, Hb, Ho⟩
      unfold Owes
      iexists W; iexact Ho
    unfold Wins
    isplitl [H0]; · iexact H0
    isplitl [H1]; · iexact H1
    isplitl [H2]; · iexact H2
    isplitl [H3]; · iexact H3
    iexact H4
  intro _
  unfold Wins Owes
  iintro ⟨HΦ, ⟨%W, Ho⟩, H0, H1, H2, H3, H4⟩
  isplitl [HΦ]; · iexact HΦ
  isplitl [Ho]
  · iexists W
    isplitr
    · ipureintro; exact fun _ _ => .inl trivial
    · iexact Ho
  isplitl [H0]; · iexact H0
  isplitl [H1]
  · iexists d1
    rw [X_fill]
    iexact H1
  isplitl [H2]
  · iexists d2
    rw [X_fill]
    iexact H2
  isplitl [H3]; · iexact H3
  iexists d4
  rw [X_fill]
  iexact H4

end Cert.KernelIdeal.Hand
end
-- ==== Proof.Entry.lean ====
module

public import proofs.«01_k».proof.Proof.Dats
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The launch: the buffers handed to the first point, those given back after the last, and the frame. -/

/-- The kernel's two cells. -/
def osem0 : Fin 2 → SemLoc sig := fun j => (![SemLoc.dma 9, SemLoc.dma 10]) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The result the body's transfers write. -/
def R0 : Finset (Ref sig .tc) := {main_v8}
/-- What the lines after write. -/
def T0 : Finset (Ref sig .tc) := {main_c_2, main_v9}
theorem H0_sub : (∅ : Finset (Ref sig .tc)) ⊆ Pipeline.restRefsP sig pre0 spec0 := Finset.empty_subset _
theorem R0_sub : R0 ⊆ Pipeline.restRefsP sig pre0 spec0 \ ∅ := by decide
theorem sU_loc : (SemLoc.dma sU : SemLoc sig) = SemLoc.dma 9 := by decide
theorem sT_loc : (SemLoc.dma sT : SemLoc sig) = SemLoc.dma 10 := by decide

theorem tables_eq (c : Dev nD) : (Pipeline.ΦT pre0 (pf0 (F := F)) c : sProp 𝕄) = Tabs c fullShare.right fullShare.right := by
  unfold Pipeline.ΦT Pipeline.prefHeld
  rw [BI.bigSep_univ_eq_bigSepL [(0 : Fin 2), (1 : Fin 2)] (by decide) (by decide)]; rfl

variable (K : Spec F) (c : Dev nD)

/-- What the launch hands over starts the invariant. -/
theorem entry (g : S11008x11008.Idx → Elt F .f32) :
    iprop((Pipeline.scopedRest (Ix := Unit) (Name := ℕ) (U := Pipeline.UD sig nD τ) (Lvl := ℕ) (Val := Elt F) spec0 c : sProp 𝕄)
      ∗ Pipeline.ownSems0 (Ix := Unit) (Name := ℕ) (U := Pipeline.UD sig nD τ) (Lvl := ℕ) (Val := Elt F) (τ := τ) osem0 c
      ∗ (((c : Thread nD τ).loc main_v8) ↦{fullShare} g) ∗ (Pipeline.ΦT pre0 (pf0 (F := F)) c : sProp 𝕄)) ⊢ PhiAt K c fullShare.right fullShare.right 0 := by
  rw [scopedRest0_eq, ownSems00_eq, tables_eq]
  unfold PhiAt AccAt Fl Idle AnyU AnyT
  rw [dif_neg (by omega), sU_loc, sT_loc]
  simp only [owns_whole]
  iintro ⟨⟨⟨%f0, H0⟩, ⟨%f1, H1⟩, ⟨%f2, H2⟩⟩, ⟨HS, HT⟩, HR, HTab⟩
  isplitl [HTab]; · iexact HTab
  isplitl [H0]
  · iexists f0
    isplitr; · ipureintro; exact fun h => absurd rfl h
    iexact H0
  isplitl [H1 H2 HS HT]
  · isplitl [H1]; · iexists f1; iexact H1
    isplitl [H2]; · iexists f2; iexact H2
    isplitl [HS] <;> iassumption
  iapply (homes K c g)
  iexact HR

/-- The invariant after the last point gives back everything, the result at contents that are good. -/
theorem leave (f₀ : S11008x11008.Idx → Elt F .f32) : PhiAt K c fullShare.right fullShare.right 1056 ⊢
    iprop((Pipeline.scopedRest (Ix := Unit) (Name := ℕ) (U := Pipeline.UD sig nD τ) (Lvl := ℕ) (Val := Elt F) spec0 c : sProp 𝕄)
      ∗ Pipeline.ownSems0 (Ix := Unit) (Name := ℕ) (U := Pipeline.UD sig nD τ) (Lvl := ℕ) (Val := Elt F) (τ := τ) osem0 c
      ∗ ∃ g : S11008x11008.Idx → Elt F .f32, ⌜∀ q, Good K q g⌝ ∗ (((c : Thread nD τ).loc main_v8) ↦{fullShare} g)) := by
  rw [scopedRest0_eq, ownSems00_eq]
  unfold PhiAt AccAt Fl Idle AnyU AnyT
  rw [dif_neg (by omega), sU_loc, sT_loc]
  simp only [owns_whole]
  iintro ⟨-, ⟨%a, -, H0⟩, ⟨⟨%f1, H1⟩, ⟨%f2, H2⟩, HS, HT⟩, HB⟩
  isplitl [H0 H1 H2]
  · isplitl [H0]; · iexists a; iexact H0
    isplitl [H1]; · iexists f1; iexact H1
    iexists f2; iexact H2
  isplitl [HS HT]; · isplitl [HS] <;> iassumption
  iapply (dones K c f₀)
  iexact HB

theorem pre_fresh : (hostOps0 (F := F)).Forall fun op => op.fresh = ∅ := by simp only [List.Forall]; repeat' constructor
theorem sfx_sub : ∀ ops ∈ [hostOps1 (F := F)], ∀ op ∈ ops, op.bufs ⊆ Pipeline.tailRefs sig pre0 spec0 := by
  intro ops hops op hop
  rw [List.mem_singleton] at hops
  subst hops
  simp only [List.mem_cons, List.not_mem_nil, or_false] at hop
  rcases hop with rfl | rfl <;> (first | rw [StableHlo.nullary_bufs] | rw [StableHlo.binary_bufs]) <;> decide
theorem sfx_fresh : ∀ ops ∈ [hostOps1 (F := F)], ∀ op ∈ ops, op.fresh = ∅ := by
  intro ops hops op hop
  rw [List.mem_singleton] at hops
  subst hops
  simp only [List.mem_cons, List.not_mem_nil, or_false] at hop
  rcases hop with rfl | rfl <;> rfl
theorem sfx_keeps : ∀ ops ∈ [hostOps1 (F := F)], ∀ op ∈ ops, ∀ w, Proc.devRef (τ := τ) .tc (Pipeline.arrRef spec0 w) ∉ op.writes := by
  intro ops hops op hop w
  rw [List.mem_singleton] at hops
  subst hops
  simp only [List.mem_cons, List.not_mem_nil, or_false] at hop
  rcases hop with rfl | rfl <;> (first | rw [StableHlo.nullary_writes] | rw [StableHlo.binary_writes]) <;> revert w <;> decide
theorem sfx_T : ∀ ops ∈ [hostOps1 (F := F)], ∀ op ∈ ops, ∀ b : Ref sig .tc, Proc.devRef (τ := τ) .tc b ∈ op.writes → b ∈ T0 := by
  intro ops hops op hop b
  rw [List.mem_singleton] at hops
  subst hops
  simp only [List.mem_cons, List.not_mem_nil, or_false] at hop
  rcases hop with rfl | rfl <;> (first | rw [StableHlo.nullary_writes] | rw [StableHlo.binary_writes]) <;> revert b <;> decide

end Cert.KernelIdeal.Hand
end
-- ==== Proof.Frame.lean ====
module

public import proofs.«01_k».proof.Proof.Entry
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The frame: from any memory the program ends, its arguments as they were and every counter at zero. -/

variable (m : (ℓ : Loc nD τ sig) → Buf (Elt F) ℓ) (g : Dev nD → PrngReg)

theorem V0_arg0 (c : Dev nD) : V0 m c (Proc.devRef .tc main_arg0) = m ((c : Thread nD τ).loc main_arg0) := rfl
theorem V0_arg1 (c : Dev nD) : V0 m c (Proc.devRef .tc main_arg1) = m ((c : Thread nD τ).loc main_arg1) := rfl
theorem V0_arg2 (c : Dev nD) : V0 m c (Proc.devRef .tc main_arg2) = m ((c : Thread nD τ).loc main_arg2) := rfl
theorem V0_arg3 (c : Dev nD) : V0 m c (Proc.devRef .tc main_arg3) = m ((c : Thread nD τ).loc main_arg3) := rfl

/-- The tables as the pallas_call finds them. -/
theorem hpf (c : Dev nD) (k : Fin 2) : V0 m c (Proc.devRef .tc (pre0.ref k)) = pf0 k := by
  fin_cases k <;> rfl

theorem hmain (𝒱₀ : Variants) : Pipeline.HMainPK (Ix := Unit) (Name := ℕ) (U := Pipeline.UD sig nD τ) (Lvl := ℕ) pcfgs 0 defs₀ 𝒱₀ m (main (F := F))
    (fun c b => V0 m c (Proc.devRef .tc b)) (fun _ => Pipeline.chain ([hostOps1 (F := F)].map StableHlo.seq)) :=
  Pipeline.hmainP_around pcfgs 0 defs₀ 𝒱₀ m main [hostOps0] [hostOps1] hostOps0_sub pre_fresh main_chain

/-- Nothing is asked of what the buffers hold. -/
def noSpec : Spec F := ⟨fun _ _ => True, fun _ _ => True, fun _ _ => True⟩
theorem noSpec_meets (c : Dev nD) : Meets m noSpec c :=
  ⟨fun _ _ _ _ => trivial, fun _ _ _ _ _ _ => trivial, fun _ _ _ _ _ _ _ _ => trivial, fun _ _ _ _ _ _ _ _ => trivial, fun _ _ _ _ _ _ _ _ => trivial⟩

set_option backward.isDefEq.respectTransparency.types false in
set_option maxHeartbeats 1600000 in
/-- The run with nothing said of the result. -/
theorem run_frame : θ_run defs (onTc (τ := τ) (main (F := F))) (s₀ m g)
    (fun r => Pipeline.FramePostR (Pipeline.pin pcfgs adm) (dats m fun _ => noSpec) 0 (R0 ∪ T0) (fun c b => V0 m c (Proc.devRef .tc b)) r ∧ r.2.sem = fun _ => 0) :=
  Pipeline.θ_run_frameP_dmaR_around_drop_shared (Q' := _) pcfgs adm (dats m fun _ => noSpec) (0 : Fin 1) launch₀0 osem0 defs₀ Variants.none ownSemFacts0 ∅ R0 T0 H0_sub R0_sub
    m g main (hbody := body m (fun _ => noSpec) (noSpec_meets m)) (hq := fun _ _ _ => rfl) (howed := fun _ _ => rfl) (V₀ := V0 m) (opss := [hostOps1])
    (hsub := sfx_sub) (hfresh := sfx_fresh) (hkeep := sfx_keeps) (hT := sfx_T) (hmain := hmain m Variants.none) (hA := fun _ _ => rfl) (hpf := hpf m)
    (hin := fun c => by
      rw [Pipeline.ΦDR_eq, phi_eq]
      unfold Pipeline.owned R0
      rw [BI.bigSep_singleton]
      iintro ⟨⟨HS, -, HO, -, ⟨%f, HR⟩⟩, HT⟩
      iapply (entry noSpec c f)
      isplitl [HS]; · iexact HS
      isplitl [HO]; · iexact HO
      isplitl [HR]; · iexact HR
      iexact HT)
    (hout := fun c => by
      rw [phi_eq, BI.bigSep_empty]
      unfold Pipeline.owned R0
      rw [BI.bigSep_singleton, show ((Fin.last (cfgA (F := F)).N).val) = 1056 from N_0]
      iintro H
      ihave H := (leave noSpec c (V0 m c (Proc.devRef .tc main_v8))) $$ H
      icases H with ⟨HS, HO, ⟨%f, -, HR⟩⟩
      isplitl [HS]; · iexact HS
      isplitl [HO]; · iexact HO
      isplitr; · iempintro
      iexists f
      iexact HR)

theorem rest_main_arg1 : main_arg1 ∈ Pipeline.restRefs sig spec0 \ (R0 ∪ T0) := Finset.mem_sdiff.mpr ⟨Pipeline.mem_restRefs_of main_arg1 (by decide) (by decide), by decide⟩
theorem rest_main_arg3 : main_arg3 ∈ Pipeline.restRefs sig spec0 \ (R0 ∪ T0) := Finset.mem_sdiff.mpr ⟨Pipeline.mem_restRefs_of main_arg3 (by decide) (by decide), by decide⟩

/-- The frame's statement. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 1).trans (((dats m (fun _ => noSpec) 0 c).arrAt_in 1 rfl _).trans (V0_arg0 m c)),
    ((h.1 c).2 main_arg1 (rest_main_arg1)).trans (V0_arg1 m c),
    ((h.1 c).1 4).trans (((dats m (fun _ => noSpec) 0 c).arrAt_in 4 rfl _).trans (V0_arg2 m c)),
    ((h.1 c).2 main_arg3 (rest_main_arg3)).trans (V0_arg3 m c)⟩, h.2⟩) (run_frame m g)

end Cert.KernelIdeal.Hand
end
-- ==== Proof.Transport.lean ====
module

public import proofs.«01_k».proof.Proof.Frame
public import proofs.«01_k».proof.Proof.Gen.Kernel
public import Idealize.ShloMosaic.Lib.Pipeline.Regions

@[expose] public section

set_option maxHeartbeats 0
set_option maxRecDepth 65536
set_option cleanup.letToHave false

noncomputable section

/-! The program as launched and its ideal form are printed alike, so a frame proved at any element
    interpretation of the one is the frame of the other. -/

namespace Cert.Kernel.Hand

open Idealize.ShloMosaic Idealize.ShloMosaic.TcCoe Idealize.SL.Sem

variable {F : FTy → Type} [FloatOps F]

/-- The frame of the one program is the frame of the other. -/
theorem frame_eq :
    (∀ (m : (ℓ : Loc Cert.Kernel.nD Cert.Kernel.τ Cert.Kernel.sig) → Buf (Elt F) ℓ) (g : Dev Cert.Kernel.nD → PrngReg),
      letI := Cert.Kernel.Gen.facts
      θ_run (Cert.Kernel.defs (F := F)) (onTc (τ := Cert.Kernel.τ) (Cert.Kernel.main (F := F))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))
        ∧ r.2.sem = fun _ => 0))
    = (∀ (m : (ℓ : Loc Cert.KernelIdeal.nD Cert.KernelIdeal.τ Cert.KernelIdeal.sig) → Buf (Elt F) ℓ) (g : Dev Cert.KernelIdeal.nD → PrngReg),
      letI := Cert.KernelIdeal.Gen.facts
      θ_run (Cert.KernelIdeal.defs (F := F)) (onTc (τ := Cert.KernelIdeal.τ) (Cert.KernelIdeal.main (F := F))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0)) := by
  chain_rfl

end Cert.Kernel.Hand

end
-- ==== Proof.Contents.lean ====
module

public import proofs.«01_k».proof.Proof.Dats
public import Idealize.ShloMosaic.Lib.ValueIdx
public import Idealize.ShloMosaic.Lib.Pipeline.Value
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What each window holds at a grid point, entry by entry: the array's entry the block's position names. -/

/-- A block's coordinate is fetched when it lies inside the array. -/
theorem lt_extent {o k d j : ℕ} : ∀ {c : Pipeline.Clip}, Pipeline.Clip.OkAt o k d c → j < k → o + j < d → j < c.extent k
  | none, _, hj, _ => hj
  | some n, h, _, hd => by
    have h2 : o + n = d := h.2.2
    change j < n
    omega

/-- A fetched block's entry is the array's entry it was fetched from. -/
theorem fill_read {G : Pipeline.Grid} (w : Pipeline.Window sig G) (t : Fin G.N) (d : w.block.Idx → Elt F w.elt) (g : w.arr.view.ty.Contents (Elt F))
    (j : w.block.Idx) (x : w.shape.Idx) (hx : ∀ a, (x a).val = w.kind.off (w.index t a) (w.size a) + (j a).val) :
    w.fill (G.coords t) d ((w.blk t).view.read (Elt F) g) j = w.arr.view.read (Elt F) g x := by
  have hm : w.moved (G.coords t) j = true := (w.moved_iff _ j).mpr fun a => by
    refine lt_extent (w.hclip (G.coords t) a) (j a).isLt ?_
    have := (x a).isLt
    rw [hx a] at this
    exact this
  unfold Window.fill
  rw [dif_pos hm]
  refine congrArg (w.arr.view.read (Elt F) g) (funext fun a => Fin.ext ?_)
  rw [hx a]
  refine (Rect.emb_apply _ _ _).trans ?_
  change _ + 1 * (j a).val = _
  rw [Nat.one_mul]
  rfl

/-- The pair the point works on. -/
abbrev pr (t : Fin grid0.N) : Fin 66 := ⟨t.val / 16, by have h : t.val < 1056 := t.isLt.trans_eq N_0; omega⟩

theorem ix1_val : ∀ t : Fin grid0.N, cc0_transform_1 (grid0.coords t) 0 = t.val % 16 / 2 ∧ cc0_transform_1 (grid0.coords t) 1 = bi (pr t) ∧ cc0_transform_1 (grid0.coords t) 2 = t.val % 16 % 2 := by
  decide +kernel
theorem ix2_val : ∀ t : Fin grid0.N, cc0_transform_2 (grid0.coords t) 0 = t.val % 16 / 2 ∧ cc0_transform_2 (grid0.coords t) 1 = bj (pr t) ∧ cc0_transform_2 (grid0.coords t) 2 = t.val % 16 % 2 := by
  decide +kernel
theorem ix3_val : ∀ t : Fin grid0.N, cc0_transform_3 (grid0.coords t) 0 = t.val % 16 / 2 ∧ cc0_transform_3 (grid0.coords t) 1 = 0 ∧ cc0_transform_3 (grid0.coords t) 2 = t.val % 16 % 2 := by
  decide +kernel
theorem ix4_val : ∀ t : Fin grid0.N, cc0_transform_4 (grid0.coords t) 0 = bi (pr t) ∧ cc0_transform_4 (grid0.coords t) 1 = bj (pr t) := by
  decide +kernel

variable (m : (ℓ : Loc nD τ sig) → Buf (Elt F) ℓ)

/-- The row block of codes. -/
theorem X1_apply (c : Dev nD) (t : Fin grid0.N) (d) (j : S1x1024x1024.Idx) (x : S8x11008x2048.Idx) (h0 : (x 0).val = t.val % 16 / 2)
    (h1 : (x 1).val = bi (pr t) * 1024 + (j 1).val) (h2 : (x 2).val = t.val % 16 % 2 * 1024 + (j 2).val) :
    X m c 1 t d j = m ((c : Thread nD τ).loc main_arg0) x := by
  have j0 : (j 0).val < 1 := (j 0).isLt
  obtain ⟨e0, e1, e2⟩ := ix1_val t
  refine fill_read (((cfgA (F := F))).win 1) t d (A0 m c 1) j x fun a => ?_
  match a with
  | ⟨0, _⟩ => change (x 0).val = cc0_transform_1 (grid0.coords t) 0 * 1 + (j 0).val; omega
  | ⟨1, _⟩ => change (x 1).val = cc0_transform_1 (grid0.coords t) 1 * 1024 + (j 1).val; omega
  | ⟨2, _⟩ => change (x 2).val = cc0_transform_1 (grid0.coords t) 2 * 1024 + (j 2).val; omega

/-- The column block of codes. -/
theorem X2_apply (c : Dev nD) (t : Fin grid0.N) (d) (j : S1x1024x1024.Idx) (x : S8x11008x2048.Idx) (h0 : (x 0).val = t.val % 16 / 2)
    (h1 : (x 1).val = bj (pr t) * 1024 + (j 1).val) (h2 : (x 2).val = t.val % 16 % 2 * 1024 + (j 2).val) :
    X m c 2 t d j = m ((c : Thread nD τ).loc main_arg0) x := by
  have j0 : (j 0).val < 1 := (j 0).isLt
  obtain ⟨e0, e1, e2⟩ := ix2_val t
  refine fill_read (((cfgA (F := F))).win 2) t d (A0 m c 2) j x fun a => ?_
  match a with
  | ⟨0, _⟩ => change (x 0).val = cc0_transform_2 (grid0.coords t) 0 * 1 + (j 0).val; omega
  | ⟨1, _⟩ => change (x 1).val = cc0_transform_2 (grid0.coords t) 1 * 1024 + (j 1).val; omega
  | ⟨2, _⟩ => change (x 2).val = cc0_transform_2 (grid0.coords t) 2 * 1024 + (j 2).val; omega

/-- The block of the running Hessian. -/
theorem X4_apply (c : Dev nD) (t : Fin grid0.N) (d) (j : S1024x1024.Idx) (x : S11008x11008.Idx) (h0 : (x 0).val = bi (pr t) * 1024 + (j 0).val)
    (h1 : (x 1).val = bj (pr t) * 1024 + (j 1).val) : X m c 4 t d j = m ((c : Thread nD τ).loc main_arg2) x := by
  obtain ⟨e0, e1⟩ := ix4_val t
  refine fill_read (((cfgA (F := F))).win 4) t d (A0 m c 4) j x fun a => ?_
  match a with
  | ⟨0, _⟩ => change (x 0).val = cc0_transform_4 (grid0.coords t) 0 * 1024 + (j 0).val; omega
  | ⟨1, _⟩ => change (x 1).val = cc0_transform_4 (grid0.coords t) 1 * 1024 + (j 1).val; omega

/-- The scales as the host hands them over, with a unit axis between. -/
theorem V0_v7 (c : Dev nD) : V0 m c (Proc.devRef .tc main_v7) = shapeCast S8x1x2048 (m ((c : Thread nD τ).loc main_arg1)) shapeCasts_S8x2048_S8x1x2048 := rfl

/-- The block of scales. -/
theorem X3_apply (c : Dev nD) (t : Fin grid0.N) (d) (j : S1x1x1024.Idx) (x : S8x2048.Idx) (h0 : (x 0).val = t.val % 16 / 2)
    (h1 : (x 1).val = t.val % 16 % 2 * 1024 + (j 2).val) : X m c 3 t d j = m ((c : Thread nD τ).loc main_arg1) x := by
  have j0 : (j 0).val < 1 := (j 0).isLt
  have j1 : (j 1).val < 1 := (j 1).isLt
  obtain ⟨e0, e1, e2⟩ := ix3_val t
  refine (fill_read (((cfgA (F := F))).win 3) t d (A0 m c 3) j (ValueIdx.ix3 (n0 := 8) (n1 := 1) (n2 := 2048) (x 0) 0 (x 1)) fun a => ?_).trans ?_
  · match a with
    | ⟨0, _⟩ => change (x 0).val = cc0_transform_3 (grid0.coords t) 0 * 1 + (j 0).val; omega
    | ⟨1, _⟩ => change 0 = cc0_transform_3 (grid0.coords t) 1 * 1 + (j 1).val; omega
    | ⟨2, _⟩ => change (x 1).val = cc0_transform_3 (grid0.coords t) 2 * 1024 + (j 2).val; omega
  · change V0 m c (Proc.devRef .tc main_v7) (ValueIdx.ix3 (n0 := 8) (n1 := 1) (n2 := 2048) (x 0) 0 (x 1)) = _
    rw [V0_v7]
    refine shapeCast_apply _ _ _ x ?_
    rw [Shape.rowMajor_val_two, Shape.rowMajor_val_three]
    change (x 0).val * 2048 + (x 1).val = ((x 0).val * 1 + 0) * 2048 + (x 1).val
    omega

/-- The number of samples before and after the batch. -/
def numBefore (c : Dev nD) : S_.Idx → Elt F .f32 := sitofp .f32 (m ((c : Thread nD τ).loc main_arg3))
def total (c : Dev nD) : S_.Idx → Elt F .f32 := addf (numBefore m c) (constant S_ .f32 0x46800000#32)

theorem V0_v6 (c : Dev nD) : V0 m c (Proc.devRef .tc main_v6) = concatenate S2 0 [⟨S1, broadcastInDim S1 ![] bcast_S_S1 (Host.divf (numBefore m c) (total m c))⟩,
    ⟨S1, broadcastInDim S1 ![] bcast_S_S1 (Host.divf (constant S_ .f32 0x40000000#32) (total m c))⟩] concatenates_S1_S1_S2_d0 := rfl

/-- The pair of coefficients, first and second. -/
theorem pair_fst {α : Type} (x y : S1.Idx → α) (h) : concatenate S2 0 [⟨S1, x⟩, ⟨S1, y⟩] h at0 = x (ValueIdx.ix1 (n := 1) 0) :=
  concatenate_pair_apply_left (s₁ := S1) (s₂ := S1) 0 x y h at0 rfl (ValueIdx.ix1 (n := 1) 0) fun b => match b with | ⟨0, _⟩ => rfl
theorem pair_snd {α : Type} (x y : S1.Idx → α) (h) : concatenate S2 0 [⟨S1, x⟩, ⟨S1, y⟩] h at1 = y (ValueIdx.ix1 (n := 1) 0) :=
  concatenate_pair_apply_right (s₁ := S1) (s₂ := S1) 0 x y h at1 rfl rfl (ValueIdx.ix1 (n := 1) 0) (fun b => match b with | ⟨0, _⟩ => fun h => absurd rfl h) rfl

/-- The two coefficients. -/
theorem X0_at0 (c : Dev nD) (t : Fin grid0.N) (d) : X m c 0 t d at0 = Host.divf (numBefore m c) (total m c) ValueIdx.ix0 := by
  refine (fill_read (((cfgA (F := F))).win 0) t d (A0 m c 0) at0 at0 fun a => ?_).trans ?_
  · match a with
    | ⟨0, _⟩ => rfl
  · change V0 m c (Proc.devRef .tc main_v6) at0 = _
    rw [V0_v6, pair_fst]
    exact broadcastInDim_apply _ _ _ _ _ fun a => a.elim0
theorem X0_at1 (c : Dev nD) (t : Fin grid0.N) (d) : X m c 0 t d at1 = Host.divf (constant S_ .f32 0x40000000#32) (total m c) ValueIdx.ix0 := by
  refine (fill_read (((cfgA (F := F))).win 0) t d (A0 m c 0) at1 at1 fun a => ?_).trans ?_
  · match a with
    | ⟨0, _⟩ => rfl
  · change V0 m c (Proc.devRef .tc main_v6) at1 = _
    rw [V0_v6, pair_snd]
    exact broadcastInDim_apply _ _ _ _ _ fun a => a.elim0

end Cert.KernelIdeal.Hand
end
-- ==== Proof.Math.lean ====
module

public import Idealize.ShloMosaic.Lib.ValueIdx
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The mathematics of the update, over the extended reals: the scaled Gram sum by blocks of the contracted axes, and the
    symmetric matrix kept from its upper triangle. -/

open ValueIdx
open scoped BigOperators

section
variable (x : (⟨3, ![8, 11008, 2048]⟩ : Shape).Idx → EReal) (s : (⟨2, ![8, 2048]⟩ : Shape).Idx → EReal)

/-- One product of the Gram sum: the scaled code of column `i` times that of column `j`, at batch `b` and position `q`. -/
def term (i j : Fin 11008) (b : Fin 8) (q : Fin 2048) : EReal := (x (ix3 b i q) * s (ix2 b q)) * (x (ix3 b j q) * s (ix2 b q))

/-- What one step of the grid adds: the products of half a batch. -/
def part (i j : Fin 11008) (k : ℕ) : EReal :=
  if h : k < 16 then ∑ l : Fin 1024, term x s i j ⟨k / 2, by omega⟩ ⟨k % 2 * 1024 + l.val, by omega⟩ else 0

/-- The first `n` steps' sum. -/
def psum (i j : Fin 11008) (n : ℕ) : EReal := ∑ k ∈ Finset.range n, part x s i j k

theorem psum_one (i j : Fin 11008) : psum x s i j 1 = part x s i j 0 := Finset.sum_range_one _
theorem psum_succ (i j : Fin 11008) (n : ℕ) : psum x s i j (n + 1) = psum x s i j n + part x s i j n := Finset.sum_range_succ _ _

/-- All sixteen steps give the whole sum over batch and position. -/
theorem psum_all (i j : Fin 11008) : psum x s i j 16 = ∑ b : Fin 8, ∑ q : Fin 2048, term x s i j b q := by
  unfold psum
  rw [Finset.sum_range, ← Equiv.sum_comp (finProdFinEquiv (m := 8) (n := 2)), Fintype.sum_prod_type]
  refine Finset.sum_congr rfl fun b _ => ?_
  rw [← Equiv.sum_comp (finProdFinEquiv (m := 2) (n := 1024)) (fun q => term x s i j b q), Fintype.sum_prod_type]
  refine Finset.sum_congr rfl fun a _ => ?_
  have hv : ((finProdFinEquiv (m := 8) (n := 2) (b, a) : Fin (8 * 2)) : ℕ) = a.val + 2 * b.val := rfl
  unfold part
  rw [dif_pos (by rw [hv]; omega)]
  refine Finset.sum_congr rfl fun l _ => ?_
  have hl : ((finProdFinEquiv (m := 2) (n := 1024) (a, l) : Fin (2 * 1024)) : ℕ) = l.val + 1024 * a.val := rfl
  congr 1
  · apply Fin.ext; simp only [hv]; omega
  · apply Fin.ext; rw [hl]; simp only [hv]; omega

variable (h : (⟨2, ![11008, 11008]⟩ : Shape).Idx → EReal) (ca cc : EReal)

/-- The updated running average at `(i, j)`. -/
def upd (i j : Fin 11008) : EReal := h (ix2 i j) * ca + cc * psum x s i j 16

/-- The result at `(i, j)`: the upper triangle of the update, mirrored below the diagonal. -/
def sym (i j : Fin 11008) : EReal := if i ≤ j then upd x s h ca cc i j else upd x s h ca cc j i

theorem sym_le {i j : Fin 11008} (hij : i ≤ j) : sym x s h ca cc i j = upd x s h ca cc i j := if_pos hij
theorem sym_ge {i j : Fin 11008} (hij : j ≤ i) : sym x s h ca cc i j = upd x s h ca cc j i := by
  unfold sym
  split
  · rename_i h1; rw [le_antisymm h1 hij]
  · rfl
end

end Cert.KernelIdeal.Hand
end
-- ==== Proof.Blocks.lean ====
module

public import proofs.«01_k».proof.Proof.Contents
public import proofs.«01_k».proof.Proof.Math
public import Idealize.ShloMosaic.Lib.ValueIdx
public import Idealize.ShloMosaic.Lib.MatmulPlain
public import Idealize.ShloMosaic.Lib.Pipeline.Value
public import Idealize.ShloMosaic.PureOps.Ideal.Laws
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What the body computes from its blocks, over the extended reals: each stored value, entry by entry, and that the
    accumulator and staging buffers hold what the value claim needs of them. -/

open ValueIdx
open scoped BigOperators

/-- The product of two blocks of scaled codes. -/
theorem pay1_apply (v4 : Vec Ideal S1x1x1024 .f32) (v7 v12 : Vec Ideal S1x1024x1024 .fp8e4m3) (r c : Fin 1024) :
    k0_pay1 v4 v7 v12 (ix2 r c) = ∑ l : Fin 1024, (v7 (ix3 (n0 := 1) 0 r l) * v4 (ix3 (n0 := 1) (n1 := 1) 0 0 l)) * (v12 (ix3 (n0 := 1) 0 c l) * v4 (ix3 (n0 := 1) (n1 := 1) 0 0 l)) := by
  have hs (l r : Fin 1024) : broadcastTo S1024x1024 (truncf .bf16 (shapeCast S1x1024 v4 shapeCasts_S1x1x1024_S1x1024) bitsLt_bf16_f32 : FVec Ideal S1x1024 .bf16) broadcasts_S1x1024_S1024x1024 (ix2 r l)
      = v4 (ix3 (n0 := 1) (n1 := 1) 0 0 l) := by
    refine (broadcastTo_apply _ _ _ (ix2 (n0 := 1) 0 l) fun a => ?_).trans ?_
    · match a with
      | ⟨0, _⟩ => rfl
      | ⟨1, _⟩ => rfl
    · refine (shapeCast_apply v4 _ _ (ix3 (n0 := 1) (n1 := 1) 0 0 l) ?_)
      rw [Shape.rowMajor_val_two, Shape.rowMajor_val_three]
      rfl
  have hx (v : Vec Ideal S1x1024x1024 .fp8e4m3) (l r : Fin 1024) : (extf .bf16 (shapeCast S1024x1024 v shapeCasts_S1x1024x1024_S1024x1024 : FVec Ideal S1024x1024 .fp8e4m3) bitsLt_fp8e4m3_bf16 : FVec Ideal S1024x1024 .bf16) (ix2 r l)
      = v (ix3 (n0 := 1) 0 r l) := by
    refine (shapeCast_apply v _ _ (ix3 (n0 := 1) 0 r l) ?_)
    rw [Shape.rowMajor_val_two, Shape.rowMajor_val_three]
    change (0 * 1024 + r.val) * 1024 + l.val = r.val * 1024 + l.val
    omega
  refine (Ideal.matmul_transposedRhs_apply (M := 1024) (K := 1024) (N := 1024) none _ _ _ r c).trans ?_
  refine (congrArg₂ (· + ·) (show _ = (0 : EReal) from Ideal.ofBits_zero_f32) (Finset.sum_congr rfl fun l _ => ?_)).trans (zero_add _)
  refine congrArg₂ (· * ·) ?_ ?_
  · exact congrArg₂ (· * ·) (hx v7 l r) (hs l r)
  · exact congrArg₂ (· * ·) (hx v12 l c) (hs l c)

theorem pay2_eq (v4 : Vec Ideal S1x1x1024 .f32) (v7 v12 : Vec Ideal S1x1024x1024 .fp8e4m3) : k0_pay2 v4 v7 v12 = k0_pay1 v4 v7 v12 := shapeCast_self _ _
theorem pay3_apply (v4 : Vec Ideal S1x1x1024 .f32) (v7 v12 : Vec Ideal S1x1024x1024 .fp8e4m3) (a : Vec Ideal S1024x1024 .f32) (j : S1024x1024.Idx) :
    k0_pay3 v4 v7 v12 a j = a j + k0_pay1 v4 v7 v12 j :=
  congrFun (shapeCast_self (addf (F := Ideal) (φ := .f32) a (k0_pay1 v4 v7 v12)) shapeCasts_S1024x1024_S1024x1024) j
theorem pay5_eq (u v : Elt Ideal .f32) (h a : Vec Ideal S1024x1024 .f32) : k0_pay5 u v h a = k0_pay4 u v h a := shapeCast_self _ _
/-- The block and its mirror image. -/
theorem swap_apply (f : S1024x1024.Idx → EReal) (r c : Fin 1024) : transpose S1024x1024 [1, 0] f transposes_S1024x1024_p1_0_S1024x1024 (ix2 r c) = f (ix2 c r) :=
  transpose_apply _ _ _ _ _ fun b => match b with
    | ⟨0, _⟩ => rfl
    | ⟨1, _⟩ => rfl
theorem pay6_apply (u v : Elt Ideal .f32) (h a : Vec Ideal S1024x1024 .f32) (r c : Fin 1024) : k0_pay6 u v h a (ix2 r c) = k0_pay4 u v h a (ix2 c r) :=
  (congrFun (shapeCast_self (transpose S1024x1024 [1, 0] (k0_pay4 u v h a) transposes_S1024x1024_p1_0_S1024x1024) shapeCasts_S1024x1024_S1024x1024) (ix2 r c)).trans (swap_apply _ r c)
/-- On the diagonal the upper triangle is mirrored. -/
theorem pay7_apply (u v : Elt Ideal .f32) (h a : Vec Ideal S1024x1024 .f32) (r c : Fin 1024) :
    k0_pay7 u v h a (ix2 r c) = if r ≤ c then k0_pay4 u v h a (ix2 r c) else k0_pay4 u v h a (ix2 c r) := by
  have e : k0_pay7 u v h a (ix2 r c) = Scalar.select (IntOp.cmpi .sle (BitVec.ofNat 32 (0 * 1024 + r.val)) (BitVec.ofNat 32 (0 * 1024 + c.val))) (k0_pay4 u v h a (ix2 r c)) (transpose S1024x1024 [1, 0] (k0_pay4 u v h a) transposes_S1024x1024_p1_0_S1024x1024 (ix2 r c)) :=
    congrFun (shapeCast_self (select (cmpi .sle (iota .tc S1024x1024 32 [0] iota_S1024x1024_d0_w32) (iota .tc S1024x1024 32 [1] iota_S1024x1024_d1_w32)) (k0_pay4 u v h a) (transpose S1024x1024 [1, 0] (k0_pay4 u v h a) transposes_S1024x1024_p1_0_S1024x1024)) shapeCasts_S1024x1024_S1024x1024) (ix2 r c)
  rw [e, swap_apply, Nat.zero_mul, Nat.zero_add, Nat.zero_add, WordCmp.cmpi_sle_ofNat (by omega) (by omega)]
  by_cases hrc : r ≤ c
  · rw [if_pos hrc, decide_eq_true (show r.val ≤ c.val from hrc)]; rfl
  · rw [if_neg hrc, decide_eq_false (show ¬ r.val ≤ c.val from hrc)]; rfl

variable (m : (ℓ : Loc nD τ sig) → Buf (Elt Ideal) ℓ) (c : Dev nD)

/-- The codes, scales and running average as the program is given them, and the two coefficients. -/
abbrev codes : (⟨3, ![8, 11008, 2048]⟩ : Shape).Idx → EReal := m ((c : Thread nD τ).loc main_arg0)
abbrev scales : (⟨2, ![8, 2048]⟩ : Shape).Idx → EReal := m ((c : Thread nD τ).loc main_arg1)
abbrev hess : (⟨2, ![11008, 11008]⟩ : Shape).Idx → EReal := m ((c : Thread nD τ).loc main_arg2)
abbrev coA : EReal := Host.divf (numBefore m c) (total m c) ValueIdx.ix0
abbrev coC : EReal := Host.divf (constant S_ .f32 0x40000000#32) (total m c) ValueIdx.ix0

/-- What a grid point adds to the accumulator at a position inside the array. -/
theorem part_apply (t : Fin grid0.N) (d1 d2) (r q : Fin 1024) (i j : Fin 11008) (hi : i.val = bi (pr t) * 1024 + r.val) (hj : j.val = bj (pr t) * 1024 + q.val) :
    k0_pay1 (X m c 3 t (anyX 3)) (X m c 1 t d1) (X m c 2 t d2) (ix2 r q) = part (codes m c) (scales m c) i j (t.val % 16) := by
  rw [pay1_apply]
  unfold part
  rw [dif_pos (Nat.mod_lt _ (by decide))]
  refine Finset.sum_congr rfl fun l _ => ?_
  have e3 := X3_apply m c t (anyX 3) (ix3 (n0 := 1) (n1 := 1) 0 0 l) (ix2 (n0 := 8) (n1 := 2048) ⟨t.val % 16 / 2, by omega⟩ ⟨t.val % 16 % 2 * 1024 + l.val, by omega⟩) rfl rfl
  have e1 := X1_apply m c t d1 (ix3 (n0 := 1) 0 r l) (ix3 (n0 := 8) (n2 := 2048) ⟨t.val % 16 / 2, by omega⟩ i ⟨t.val % 16 % 2 * 1024 + l.val, by omega⟩) rfl hi rfl
  have e2 := X2_apply m c t d2 (ix3 (n0 := 1) 0 q l) (ix3 (n0 := 8) (n2 := 2048) ⟨t.val % 16 / 2, by omega⟩ j ⟨t.val % 16 % 2 * 1024 + l.val, by omega⟩) rfl hj rfl
  unfold term
  exact congrArg₂ (· * ·) (congrArg₂ (· * ·) e1 e3) (congrArg₂ (· * ·) e2 e3)

/-- The result's entries. -/
abbrev res (i j : Fin 11008) : EReal := sym (codes m c) (scales m c) (hess m c) (coA m c) (coC m c) i j

/-- What the buffers must hold: the accumulator the sum of the steps done, a staging block the result's entries. -/
def valSpec : Spec Ideal where
  acc := fun n a => ∀ (p : Fin 66) (k : ℕ), k < 16 → n = p.val * 16 + k + 1 → ∀ (r q : Fin 1024) (i j : Fin 11008), i.val = bi p * 1024 + r.val → j.val = bj p * 1024 + q.val →
    a (ix2 r q) = psum (codes m c) (scales m c) i j (k + 1)
  u := fun p f => ∀ (r q : Fin 1024) (i j : Fin 11008), i.val = bi p * 1024 + r.val → j.val = bj p * 1024 + q.val → f (ix2 r q) = res m c i j
  t := fun p f => ∀ (r q : Fin 1024) (i j : Fin 11008), i.val = bj p * 1024 + r.val → j.val = bi p * 1024 + q.val → f (ix2 r q) = res m c i j

/-- The entry of the updated average the block's position names, once all sixteen steps are summed. -/
theorem fin_apply (t : Fin grid0.N) (p : Fin 66) (hp : (grid0.coords t 0).val = p.val) (hk : (grid0.coords t 1).val = 15) (d4) (a) (ha : (valSpec m c).acc (t.val + 1) a)
    (r q : Fin 1024) (i j : Fin 11008) (hi : i.val = bi p * 1024 + r.val) (hj : j.val = bj p * 1024 + q.val) :
    k0_pay4 (X m c 0 t (anyX 0) at0) (X m c 0 t (anyX 0) at1) (X m c 4 t d4) a (ix2 r q)
      = upd (codes m c) (scales m c) (hess m c) (coA m c) (coC m c) i j := by
  obtain ⟨h0, h1⟩ := coords_val t
  have hpr : pr t = p := Fin.ext (h0.symm.trans hp)
  have e4 := X4_apply m c t d4 (ix2 r q) (ix2 i j) (by rw [hpr]; exact hi) (by rw [hpr]; exact hj)
  have ea := ha p 15 (by decide) (by omega) r q i j hi hj
  unfold upd
  exact congrArg₂ (· + ·) (congrArg₂ (· * ·) e4 (X0_at0 m c t _)) (congrArg₂ (· * ·) (X0_at1 m c t _) ea)

/-- The body keeps to it. -/
theorem valSpec_meets : Meets m (valSpec m c) c where
  first := fun t h0 d1 d2 p k hk hn r q i j hi hj => by
    obtain ⟨hc0, hc1⟩ := coords_val t
    obtain rfl : k = 0 := by omega
    have hpr : pr t = p := Fin.ext (show t.val / 16 = p.val by omega)
    rw [pay2_eq, psum_one, part_apply m c t d1 d2 r q i j (by rw [hpr]; exact hi) (by rw [hpr]; exact hj), ← hc1, h0]
  step := fun t h0 d1 d2 a ha p k hk hn r q i j hi hj => by
    obtain ⟨hc0, hc1⟩ := coords_val t
    obtain ⟨k, rfl⟩ : ∃ k', k = k' + 1 := ⟨k - 1, by omega⟩
    have hpr : pr t = p := Fin.ext (show t.val / 16 = p.val by omega)
    rw [pay3_apply, psum_succ, part_apply m c t d1 d2 r q i j (by rw [hpr]; exact hi) (by rw [hpr]; exact hj), ha p k (by omega) (by omega) r q i j hi hj,
      show t.val % 16 = k + 1 by omega]
  finU := fun t p hp hk d4 a ha hne r q i j hi hj => by
    have hl := bi_le_bj p
    rw [pay5_eq, fin_apply m c t p hp hk d4 a ha r q i j hi hj]
    exact (sym_le _ _ _ _ _ (show i.val ≤ j.val by omega)).symm
  finT := fun t p hp hk d4 a ha hne r q i j hi hj => by
    have hl := bi_le_bj p
    rw [pay6_apply, fin_apply m c t p hp hk d4 a ha q r j i hj hi]
    exact (sym_ge _ _ _ _ _ (show j.val ≤ i.val by omega)).symm
  finD := fun t p hp hk d4 a ha he r q i j hi hj => by
    rw [pay7_apply]
    by_cases hrq : r ≤ q
    · rw [if_pos hrq, fin_apply m c t p hp hk d4 a ha r q i j hi hj]
      have : r.val ≤ q.val := hrq
      exact (sym_le _ _ _ _ _ (show i.val ≤ j.val by omega)).symm
    · rw [if_neg hrq, fin_apply m c t p hp hk d4 a ha q r j i (by omega) (by omega)]
      have : ¬ r.val ≤ q.val := hrq
      exact (sym_ge _ _ _ _ _ (show j.val ≤ i.val by omega)).symm

/-- The result array. -/
def resArr : S11008x11008.Idx → EReal := fun x => res m c (x 0) (x 1)

/-- An array whose every pair of blocks is as required is the result. -/
theorem good_all (g : S11008x11008.Idx → EReal) (hg : ∀ q, Good (F := Ideal) (valSpec m c) q g) : g = resArr m c := by
  funext x
  have b0 : (x 0).val < 11008 := (x 0).isLt
  have b1 : (x 1).val < 11008 := (x 1).isLt
  have hx : x ∈ Finset.univ.biUnion pblk := by rw [pblk_cover]; exact Finset.mem_univ _
  obtain ⟨q, -, hq⟩ := Finset.mem_biUnion.mp hx
  obtain ⟨⟨f, hf, hr⟩, h2⟩ := hg q
  let r : Fin 1024 := ⟨(x 0).val % 1024, Nat.mod_lt _ (by decide)⟩
  let l : Fin 1024 := ⟨(x 1).val % 1024, Nat.mod_lt _ (by decide)⟩
  have er : r.val = (x 0).val % 1024 := rfl
  have el : l.val = (x 1).val % 1024 := rfl
  rcases mem_pblk.mp hq with ⟨e0, e1⟩ | ⟨e0, e1⟩
  · have h0 : (x 0).val = bi q * 1024 + r.val := by omega
    have h1 : (x 1).val = bj q * 1024 + l.val := by omega
    exact (hr x (ix2 r l) h0 h1).trans (hf r l (x 0) (x 1) h0 h1)
  · by_cases hne : bi q = bj q
    · have h0 : (x 0).val = bi q * 1024 + r.val := by omega
      have h1 : (x 1).val = bj q * 1024 + l.val := by omega
      exact (hr x (ix2 r l) h0 h1).trans (hf r l (x 0) (x 1) h0 h1)
    · obtain ⟨f', hf', hr'⟩ := h2 hne
      have h0 : (x 0).val = bj q * 1024 + r.val := by omega
      have h1 : (x 1).val = bi q * 1024 + l.val := by omega
      exact (hr' x (ix2 r l) h0 h1).trans (hf' r l (x 0) (x 1) h0 h1)

end Cert.KernelIdeal.Hand
end
-- ==== Proof.Value.lean ====
module

public import proofs.«01_k».proof.Proof.Frame
public import proofs.«01_k».proof.Proof.Blocks
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The whole program's run over the extended reals: the result array holds the symmetric update, and the arguments are
    unchanged. -/

variable (m : (ℓ : Loc nD τ sig) → Buf (Elt Ideal) ℓ) (g : Dev nD → PrngReg)

/-- What the pallas_call leaves in the buffers it is handed: the result array in its own, the others as found. -/
def finArr (c : Dev nD) (b : Ref sig .tc) : Buf (Elt Ideal) ((c : Thread nD τ).loc b) :=
  if h : b = main_v8 then h ▸ (resArr m c : Buf (Elt Ideal) ((c : Thread nD τ).loc main_v8)) else V0 m c (Proc.devRef .tc b)
theorem finArr_v8 (c : Dev nD) : finArr m c main_v8 = resArr m c := dif_pos rfl

set_option backward.isDefEq.respectTransparency.types false in
set_option maxHeartbeats 1600000 in
/-- The run, the result named. -/
theorem run_value : θ_run defs (onTc (τ := τ) (main (F := Ideal))) (s₀ m g) (fun r => ∀ c : Dev nD,
      (∀ w, r.2.mem ((spec0 w).arr.view.loc (c.tc : Thread nD τ)) = (dats m (valSpec m) 0 c).arrAt w (cfgA (F := Ideal)).N)
      ∧ ∀ b ∈ Pipeline.restRefsP sig pre0 spec0, r.2.mem ((c.tc : Thread nD τ).loc b) = StableHlo.after [hostOps1].flatten
          (Pipeline.withArrays spec0 c (Pipeline.withR (V0 m c) R0 c (finArr m c)) fun w => (dats m (valSpec m) 0 c).arrAt w (cfgA (F := Ideal)).N) (Proc.devRef .tc b)) :=
  Pipeline.θ_run_frameP_dmaR_aroundV_shared (Q' := _) pcfgs adm (dats m (valSpec m)) (0 : Fin 1) launch₀0 osem0 defs₀ Variants.none ownSemFacts0 ∅ R0 H0_sub R0_sub
    m g main (hbody := body m (valSpec m) (valSpec_meets m)) (hq := fun _ _ _ => rfl) (howed := fun _ _ => rfl) (V₀ := V0 m) (opss := [hostOps1])
    (hsub := sfx_sub) (hfresh := sfx_fresh) (hkeep := sfx_keeps) (G := finArr m) (hmain := hmain m Variants.none) (hA := fun _ _ => rfl) (hpf := hpf m)
    (hin := fun c => by
      rw [phi_eq]
      unfold Pipeline.ΦDRV R0
      rw [BI.bigSep_singleton]
      iintro ⟨⟨HS, HO, -, HR⟩, HT⟩
      iapply (entry (valSpec m c) c (V0 m c (Proc.devRef .tc main_v8)))
      isplitl [HS]; · iexact HS
      isplitl [HO]; · iexact HO
      isplitl [HR]; · iexact HR
      iexact HT)
    (hout := fun c => by
      rw [phi_eq]
      unfold Pipeline.ΦDRV R0
      rw [BI.bigSep_singleton, BI.bigSep_empty, show ((Fin.last (cfgA (F := Ideal)).N).val) = 1056 from N_0, finArr_v8]
      iintro H
      ihave H := (leave (valSpec m c) c (V0 m c (Proc.devRef .tc main_v8))) $$ H
      icases H with ⟨HS, HO, ⟨%f, %hf, HR⟩⟩
      obtain rfl := good_all m c f hf
      isplitl [HS]; · iexact HS
      isplitl [HO]; · iexact HO
      isplitr; · iempintro
      iexact HR)

theorem mem_v8 : main_v8 ∈ Pipeline.restRefsP sig pre0 spec0 := by decide
theorem mem_v9 : main_v9 ∈ Pipeline.restRefsP sig pre0 spec0 := by decide
theorem mem_arg1 : main_arg1 ∈ Pipeline.restRefsP sig pre0 spec0 := by decide
theorem mem_arg3 : main_arg3 ∈ Pipeline.restRefsP sig pre0 spec0 := by decide

/-- The later operations write the last result only. -/
theorem after_v9 (W : Valuation τ sig (Elt Ideal)) : StableHlo.after [hostOps1].flatten W (Proc.devRef .tc main_v9) = addi (W (Proc.devRef .tc main_arg3)) (constantI S_ 32 16384#32) := rfl
theorem after_v8 (W : Valuation τ sig (Elt Ideal)) : StableHlo.after [hostOps1].flatten W (Proc.devRef .tc main_v8) = W (Proc.devRef .tc main_v8) := rfl
theorem after_arg1 (W : Valuation τ sig (Elt Ideal)) : StableHlo.after [hostOps1].flatten W (Proc.devRef .tc main_arg1) = W (Proc.devRef .tc main_arg1) := rfl
theorem after_arg3 (W : Valuation τ sig (Elt Ideal)) : StableHlo.after [hostOps1].flatten W (Proc.devRef .tc main_arg3) = W (Proc.devRef .tc main_arg3) := rfl

/-- What the pallas_call leaves, read at the buffers no window is over. -/
theorem left_v8 (c : Dev nD) (A) : Pipeline.withArrays spec0 c (Pipeline.withR (V0 m c) R0 c (finArr m c)) A (Proc.devRef .tc main_v8) = resArr m c :=
  (Pipeline.withArrays_of_ne spec0 c _ A main_v8 (by decide)).trans ((Pipeline.withR_of_mem (V0 m c) R0 c (finArr m c) main_v8 (by decide)).trans (finArr_v8 m c))
theorem left_arg1 (c : Dev nD) (A) : Pipeline.withArrays spec0 c (Pipeline.withR (V0 m c) R0 c (finArr m c)) A (Proc.devRef .tc main_arg1) = m ((c : Thread nD τ).loc main_arg1) :=
  (Pipeline.withArrays_of_ne spec0 c _ A main_arg1 (by decide)).trans ((Pipeline.withR_of_not_mem (V0 m c) R0 c (finArr m c) main_arg1 (by decide)).trans (V0_arg1 m c))
theorem left_arg3 (c : Dev nD) (A) : Pipeline.withArrays spec0 c (Pipeline.withR (V0 m c) R0 c (finArr m c)) A (Proc.devRef .tc main_arg3) = m ((c : Thread nD τ).loc main_arg3) :=
  (Pipeline.withArrays_of_ne spec0 c _ A main_arg3 (by decide)).trans ((Pipeline.withR_of_not_mem (V0 m c) R0 c (finArr m c) main_arg3 (by decide)).trans (V0_arg3 m c))

/-- The run's results and arguments. -/
theorem value : θ_run defs (onTc (τ := τ) (main (F := Ideal))) ⟨m, fun _ => 0, g⟩ (fun r => ∀ c : Dev nD,
      r.2.mem ((c.tc : Thread nD τ).loc main_v8) = resArr m c
      ∧ r.2.mem ((c.tc : Thread nD τ).loc main_v9) = addi (m ((c.tc : Thread nD τ).loc main_arg3)) (constantI S_ 32 16384#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_v8 mem_v8).trans ((after_v8 _).trans (left_v8 m c _)),
    ((h c).2 main_v9 mem_v9).trans ((after_v9 _).trans (congrArg (fun z => addi z (constantI S_ 32 16384#32)) (left_arg3 m c _))),
    ((h c).1 1).trans (((dats m (valSpec m) 0 c).arrAt_in 1 rfl _).trans (V0_arg0 m c)),
    ((h c).2 main_arg1 mem_arg1).trans ((after_arg1 _).trans (left_arg1 m c _)),
    ((h c).1 4).trans (((dats m (valSpec m) 0 c).arrAt_in 4 rfl _).trans (V0_arg2 m c)),
    ((h c).2 main_arg3 mem_arg3).trans ((after_arg3 _).trans (left_arg3 m c _))⟩) (run_value m g)

end Cert.KernelIdeal.Hand
end
-- ==== Proof.RefValue.lean ====
module

public import proofs.«01_k».proof.Proof.Math
public import proofs.«01_k».proof.Proof.Gen.ReferenceIdeal.Points
public import proofs.«01_k».proof.Proof.Gen.ReferenceIdeal.Run
public import proofs.«01_k».proof.Proof.Gen.ReferenceIdeal.Read
public import Idealize.ShloMosaic.Lib.ValueIdx
public import Idealize.ShloMosaic.Lib.TwoAxisContraction
public import Idealize.ShloMosaic.Lib.Pipeline.Value
public import Idealize.ShloMosaic.Lib.Pipeline.ValueKit
public import Idealize.ShloMosaic.Lib.WordCmp
public import Idealize.ShloMosaic.PureOps.Ideal.Laws

@[expose] public section

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo
open Idealize.SL Idealize.SL.Sem
open Cert.KernelIdeal.Hand (term psum_all upd sym sym_le sym_ge psum)
open scoped BigOperators

/-! What the reference computes, entry by entry: the widened codes, the Gram sum, the update, and the two triangles added. -/

variable (m : (ℓ : Loc nD τ sig) → Buf (Elt Ideal) ℓ)

/-- The widening region leaves the codes' own values. -/
theorem reg_apply (c : Dev nD) (i : S8x11008x2048.Idx) :
    Value.reg_main_v0 m c i = (m ((c.tc : Thread nD τ).loc main_arg0) : S8x11008x2048.Idx → EReal) i := by
  have h : Value.reg_main_v0 m c = (m ((c.tc : Thread nD τ).loc main_arg0) : S8x11008x2048.Idx → EReal) := by
    refine (Gen.dats m 0 c).arrAt_eq_of_after_last 1 t0_0 (by decide +kernel) _ fun j => ?_
    rw [after0_1, out0_1, View.canon_unit_zero (by funext a; fin_cases a <;> rfl)]
    unfold k0_pay1
    rw [View.ld_unit_zero (by funext a; fin_cases a <;> rfl)]
    have e : (((cfg0.win 0).blk t0_0).view.emb fun a => ⟨(j a).val, (j a).isLt⟩ : S8x11008x2048.Idx) = (cfg0.win 1).arr.view.emb j := by
      funext a; apply Fin.ext
      exact Pipeline.Window.rect_emb_val_of_index_zero (cfg0.win 0) t0_0 a rfl _
    exact congrArg (m ((c.tc : Thread nD τ).loc main_arg0) : S8x11008x2048.Idx → EReal) e
  rw [h]

/-- The reference's dot, at row `i` and column `j`: the sum over batch and position. -/
theorem dot_apply (l : S8x11008x2048.Idx → EReal) (i j : Fin 11008) :
    (Host.dotGeneral (F := Ideal) (φ₁ := .bf16) (φ₂ := .bf16) dot_S8x11008x2048_S8x11008x2048_S11008x11008_02_02_1_1_n_n none l l : S11008x11008.Idx → EReal) (ValueIdx.ix2 i j)
      = ∑ b : Fin 8, ∑ q : Fin 2048, l (ValueIdx.ix3 b i q) * l (ValueIdx.ix3 b j q) := by
  let D := dot_S8x11008x2048_S8x11008x2048_S11008x11008_02_02_1_1_n_n
  have hr : D.contr.rank = 2 := rfl
  have c0 : D.contr.size ⟨0, by rw [hr]; omega⟩ = 8 := rfl
  have c1 : D.contr.size ⟨1, by rw [hr]; omega⟩ = 2048 := rfl
  unfold Host.dotGeneral
  rw [Ideal.dotGeneral_apply, ← Equiv.sum_comp (ValueIdx.contrEquiv2 D 8 2048 hr c0 c1).symm, Fintype.sum_prod_type]
  refine Finset.sum_congr rfl fun b _ => Finset.sum_congr rfl fun q _ => ?_
  have h0 := ValueIdx.contrEquiv2_symm_val0 D 8 2048 hr c0 c1 (b, q)
  have h1 := ValueIdx.contrEquiv2_symm_val1 D 8 2048 hr c0 c1 (b, q)
  have el : D.lhsIdx (ValueIdx.ix2 i j) ((ValueIdx.contrEquiv2 D 8 2048 hr c0 c1).symm (b, q)) = ValueIdx.ix3 b i q := by
    funext a; apply Fin.ext
    match a with
    | ⟨0, _⟩ => exact h0
    | ⟨1, _⟩ => rfl
    | ⟨2, _⟩ => exact h1
  have er : D.rhsIdx (ValueIdx.ix2 i j) ((ValueIdx.contrEquiv2 D 8 2048 hr c0 c1).symm (b, q)) = ValueIdx.ix3 b j q := by
    funext a; apply Fin.ext
    match a with
    | ⟨0, _⟩ => exact h0
    | ⟨1, _⟩ => rfl
    | ⟨2, _⟩ => exact h1
  rw [el, er]

variable (x1 : S8x2048.Idx → EReal) (x2 : S11008x11008.Idx → EReal) (x3 : (⟨S_, .i32⟩ : BufTy).Contents (Elt Ideal)) (r0 : S8x11008x2048.Idx → EReal)

/-- A scaled code. -/
theorem v4_apply (b : Fin 8) (i : Fin 11008) (q : Fin 2048) :
    (val_main_v4 (F := Ideal) x1 r0 (ValueIdx.ix3 b i q) : EReal) = r0 (ValueIdx.ix3 b i q) * x1 (ValueIdx.ix2 b q) := by
  rw [val_main_v4_apply, val_main_v3_apply, val_main_v2_apply, val_main_v1_apply]
  have e : idx_main_v1 (idx_main_v3 (ValueIdx.ix3 b i q)) = ValueIdx.ix2 b q := by
    funext a; apply Fin.ext
    match a with
    | ⟨0, _⟩ => rfl
    | ⟨1, _⟩ => rfl
  rw [e]; rfl

/-- The Gram sum. -/
theorem v5_apply (i j : Fin 11008) :
    (val_main_v5 (F := Ideal) x1 r0 (ValueIdx.ix2 i j) : EReal) = psum r0 x1 i j 16 := by
  rw [psum_all]
  refine (dot_apply (val_main_v4 (F := Ideal) x1 r0) i j).trans ?_
  refine Finset.sum_congr rfl fun b _ => Finset.sum_congr rfl fun q _ => ?_
  rw [v4_apply, v4_apply]; rfl

/-- The updated matrix before its triangles are taken. -/
theorem v14_apply (i j : Fin 11008) :
    (val_main_v14 (F := Ideal) x1 x2 x3 r0 (ValueIdx.ix2 i j) : EReal)
      = upd r0 x1 x2 (val_main_v8 (F := Ideal) x3 ValueIdx.ix0) (val_main_v9 (F := Ideal) x3 ValueIdx.ix0) i j := by
  rw [val_main_v14_apply, val_main_v11_apply, val_main_v13_apply, val_main_v10_apply, val_main_v12_apply]
  have e (k : S_.Idx) : k = ValueIdx.ix0 := funext fun a => a.elim0
  rw [e (idx_main_v10 _), e (idx_main_v12 _), v5_apply]; rfl

/-- The signed compare of `a` less one (minus one added as a word `w`) against `b` decides `b < a`. -/
theorem cmp_pred (a b : ℕ) (ha : a < 11008) (hb : b < 11008) (w : BitVec 32) (hw : w.toNat = 4294967295) :
    IntOp.cmpi .sge (IntOp.addi (BitVec.ofNat 32 a) w) (BitVec.ofNat 32 b) = BitVec.ofBool (decide (b < a)) := by
  have ea (x y : BitVec 32) : IntOp.addi x y = x + y := rfl
  rw [WordCmp.cmpi_sge_eq, ea]
  refine congrArg BitVec.ofBool (decide_eq_decide.mpr ?_)
  rw [BitVec.toInt_eq_toNat_cond, BitVec.toInt_eq_toNat_cond, BitVec.toNat_add, BitVec.toNat_ofNat, BitVec.toNat_ofNat, hw]
  split <;> split <;> omega

/-- With zero added it decides `b ≤ a`. -/
theorem cmp_self (a b : ℕ) (ha : a < 11008) (hb : b < 11008) :
    IntOp.cmpi .sge (IntOp.addi (BitVec.ofNat 32 a) 0#32) (BitVec.ofNat 32 b) = BitVec.ofBool (decide (b ≤ a)) := by
  have ea (x : BitVec 32) : IntOp.addi x 0#32 = x := BitVec.add_zero x
  rw [ea, WordCmp.cmpi_sge_ofNat (by omega) (by omega)]

/-- The word of minus one. -/
theorem minus_one : (4294967295#32).toNat = 4294967295 := by rw [BitVec.toNat_ofNat]

/-- The first mask is on strictly below the diagonal. -/
theorem mask_lower (i j : Fin 11008) :
    val_main_call0_v4 (F := Ideal) (ValueIdx.ix2 i j) = BitVec.ofBool (decide (j < i)) := by
  rw [val_main_call0_v4_apply, val_main_call0_v2_apply, val_main_call0_v0_apply, val_main_call0_v1_apply, val_main_call0_c_apply,
    val_main_call0_v3_apply]
  exact cmp_pred i.val j.val i.isLt j.isLt _ minus_one

/-- The second mask is on at and below the diagonal. -/
theorem mask_lower_eq (i j : Fin 11008) :
    val_main_call1_v4 (F := Ideal) (ValueIdx.ix2 i j) = BitVec.ofBool (decide (j ≤ i)) := by
  rw [val_main_call1_v4_apply, val_main_call1_v2_apply, val_main_call1_v0_apply, val_main_call1_v1_apply, val_main_call1_c_apply,
    val_main_call1_v3_apply]
  exact cmp_self i.val j.val i.isLt j.isLt

/-- The upper triangle with the diagonal. -/
theorem v15_apply (i j : Fin 11008) :
    (val_main_v15 (F := Ideal) x1 x2 x3 r0 (ValueIdx.ix2 i j) : EReal)
      = if i ≤ j then upd r0 x1 x2 (val_main_v8 (F := Ideal) x3 ValueIdx.ix0) (val_main_v9 (F := Ideal) x3 ValueIdx.ix0) i j else 0 := by
  rw [val_main_v15_apply, mask_lower, v14_apply, val_main_call0_v5_apply, val_main_call0_cst_apply]
  by_cases h : i ≤ j
  · rw [if_pos h, decide_eq_false (not_lt.mpr h)]; exact ValueIdx.select_zero _ _
  · rw [if_neg h, decide_eq_true (not_le.mp h)]; exact (ValueIdx.select_one _ _).trans Ideal.ofBits_zero_f32

/-- The upper triangle without the diagonal. -/
theorem v16_apply (i j : Fin 11008) :
    (val_main_v16 (F := Ideal) x1 x2 x3 r0 (ValueIdx.ix2 i j) : EReal)
      = if i < j then upd r0 x1 x2 (val_main_v8 (F := Ideal) x3 ValueIdx.ix0) (val_main_v9 (F := Ideal) x3 ValueIdx.ix0) i j else 0 := by
  rw [val_main_v16_apply, mask_lower_eq, v14_apply, val_main_call1_v5_apply, val_main_call1_cst_apply]
  by_cases h : i < j
  · rw [if_pos h, decide_eq_false (not_le.mpr h)]; exact ValueIdx.select_zero _ _
  · rw [if_neg h, decide_eq_true (not_lt.mp h)]; exact (ValueIdx.select_one _ _).trans Ideal.ofBits_zero_f32

/-- The two triangles added are the symmetric matrix of the upper triangle. -/
theorem v18_apply (i j : Fin 11008) :
    (val_main_v18 (F := Ideal) x1 x2 x3 r0 (ValueIdx.ix2 i j) : EReal)
      = sym r0 x1 x2 (val_main_v8 (F := Ideal) x3 ValueIdx.ix0) (val_main_v9 (F := Ideal) x3 ValueIdx.ix0) i j := by
  have e : idx_main_v17 (ValueIdx.ix2 i j) = ValueIdx.ix2 j i := by
    funext a; apply Fin.ext
    match a with
    | ⟨0, _⟩ => rfl
    | ⟨1, _⟩ => rfl
  rw [val_main_v18_apply, val_main_v17_apply, e, v15_apply, v16_apply]
  unfold sym
  by_cases h : i ≤ j
  · rw [if_pos h, if_pos h, if_neg (not_lt.mpr h)]; exact add_zero _
  · rw [if_neg h, if_neg h, if_pos (not_le.mp h)]; exact zero_add _

/-- The reference's result array, as the mathematics of its four arguments. -/
def refArr (c : Dev nD) : S11008x11008.Idx → EReal := fun x =>
  sym (m ((c.tc : Thread nD τ).loc main_arg0)) (m ((c.tc : Thread nD τ).loc main_arg1)) (m ((c.tc : Thread nD τ).loc main_arg2))
    (val_main_v8 (F := Ideal) (m ((c.tc : Thread nD τ).loc main_arg3)) ValueIdx.ix0) (val_main_v9 (F := Ideal) (m ((c.tc : Thread nD τ).loc main_arg3)) ValueIdx.ix0)
    (x 0) (x 1)

/-- The host operations' composed term is that array. -/
theorem v18_eq (c : Dev nD) :
    val_main_v18 (F := Ideal) (m ((c.tc : Thread nD τ).loc main_arg1)) (m ((c.tc : Thread nD τ).loc main_arg2)) (m ((c.tc : Thread nD τ).loc main_arg3))
      (Value.reg_main_v0 m c) = refArr m c := by
  funext x
  obtain ⟨i, j, rfl⟩ : ∃ i j : Fin 11008, x = ValueIdx.ix2 i j := ⟨x 0, x 1, by
    funext a; match a with
    | ⟨0, _⟩ => rfl
    | ⟨1, _⟩ => rfl⟩
  have hr : Value.reg_main_v0 m c = (m ((c.tc : Thread nD τ).loc main_arg0) : S8x11008x2048.Idx → EReal) := funext fun i => reg_apply m c i
  rw [hr]
  exact v18_apply _ _ _ _ i j

/-- The reference runs to its end with the updated matrix and the new count, its arguments unchanged. -/
theorem value (g : Dev nD → PrngReg) :
    θ_run defs (onTc (τ := τ) (main (F := Ideal))) ⟨m, fun _ => 0, g⟩ (fun r => ∀ c : Dev nD,
      r.2.mem ((c.tc : Thread nD τ).loc main_v18) = refArr m c
      ∧ r.2.mem ((c.tc : Thread nD τ).loc main_v19) = addi (m ((c.tc : Thread nD τ).loc main_arg3)) (constantI S_ 32 16384#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (v18_eq m c), (h c).2⟩) (Value.run m g)

end Cert.ReferenceIdeal.Hand

end
-- ==== Proof.Equation.lean ====
module

public import proofs.«01_k».proof.Proof.Value
public import proofs.«01_k».proof.Proof.RefValue

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- On equal arguments the reference's array is the kernel's, entry by entry. -/
theorem arrays_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.refArr m' c = Cert.KernelIdeal.Hand.resArr m c := by
  funext x
  unfold Cert.ReferenceIdeal.Hand.refArr Cert.KernelIdeal.Hand.resArr Cert.KernelIdeal.Hand.res
  rw [h0, h1, h2, h3]
  rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Frame
public import proofs.«01_k».proof.Proof.Transport
public import proofs.«01_k».proof.Proof.Value
public import proofs.«01_k».proof.Proof.RefValue
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m g _ => ?_, fun m g _ => Cert.KernelIdeal.Hand.frame m g, fun m g _ => Cert.ReferenceIdeal.Gen.frame m g, trivial, ?_⟩
  · exact (Eq.mpr (Cert.Kernel.Hand.frame_eq (F := Bits)) fun m g => Cert.KernelIdeal.Hand.frame m g) m g
  · intro m g m' g' _ heq
    refine ⟨fun c => Cert.KernelIdeal.Hand.resArr m c, _, Cert.KernelIdeal.Hand.value m g,
      (θ_run _ _ _).mono (fun r h c => ?_) (Cert.ReferenceIdeal.Hand.value m' g')⟩
    obtain ⟨h0, h1, h2, h3⟩ := heq c
    obtain ⟨k0, k1, k⟩ := h c
    exact ⟨k0.trans (arrays_eq m m' c h0 h1 h2 h3), k1.trans (by rw [h3]), k⟩⟩

end Cert.Proof

end
